-- ==== Defs.lean ====
def Pre_Kernel [hPre_pairs_in_range : Cert.Pre_pairs_in_range.Facts] (m : (ℓ : Loc Cert.Kernel.nD Cert.Kernel.τ Cert.Kernel.sig) → Buf (Elt Bits) ℓ) : Prop :=
  ∀ c : Dev Cert.Kernel.nD,
    (Cert.Pre_pairs_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_pairs_in_range : Cert.Pre_pairs_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_pairs_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_KernelIdeal_pre [hPre_pre : Cert.Pre_pre.Facts] (m : (ℓ : Loc Cert.KernelIdeal.nD Cert.KernelIdeal.τ Cert.KernelIdeal.sig) → Buf (Elt Ideal) ℓ) : Prop :=
  ∀ c : Dev Cert.KernelIdeal.nD,
    (Cert.Pre_pre.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_pre [hPre_pre : Cert.Pre_pre.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_pre.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] [hPre_pairs_in_range : Cert.Pre_pairs_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] [hPre_pairs_in_range : Cert.Pre_pairs_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_pre [hKernelIdeal : Cert.KernelIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_pre m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_pre [hReferenceIdeal : Cert.ReferenceIdeal.Facts] [hPre_pre : Cert.Pre_pre.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_pre m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.bf16_pair.BufferStatement Cert.KernelIdeal.S96x2x256 Cert.KernelIdeal.S96x1x256
  ∧ IdealRules.bf16_pair.PackStatement Cert.KernelIdeal.S96x128
  ∧ IdealRules.bf16_pair.Statement Cert.KernelIdeal.S96x2x128 Cert.KernelIdeal.S96x1x128
  ∧ IdealRules.bf16_pair.Statement Cert.KernelIdeal.S1x2x128 Cert.KernelIdeal.S1x1x128
  ∧ IdealRules.bf16_pair.Statement Cert.KernelIdeal.S2x128 Cert.KernelIdeal.S1x128

def algebraic_KernelIdeal_ReferenceIdeal_pre_pre [hKernelIdeal : Cert.KernelIdeal.Facts] [hReferenceIdeal : Cert.ReferenceIdeal.Facts] [hPre_pre : Cert.Pre_pre.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_pre m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v2_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_pairs_in_range : Cert.Pre_pairs_in_range.Facts) (hPre_pre : Cert.Pre_pre.Facts),
    quiescent_Kernel (hKernel := hKernel) (hPre_pairs_in_range := hPre_pairs_in_range)
    ∧ quiescent_KernelIdeal (hKernelIdeal := hKernelIdeal) (hPre_pairs_in_range := hPre_pairs_in_range)
    ∧ quiescent_KernelIdeal_pre_pre (hKernelIdeal := hKernelIdeal) (hPre_pre := hPre_pre)
    ∧ quiescent_ReferenceIdeal (hReferenceIdeal := hReferenceIdeal)
    ∧ quiescent_ReferenceIdeal_pre_pre (hReferenceIdeal := hReferenceIdeal) (hPre_pre := hPre_pre)
    ∧ preserves_Kernel_KernelIdeal
    ∧ algebraic_KernelIdeal_ReferenceIdeal_pre_pre (hKernelIdeal := hKernelIdeal) (hReferenceIdeal := hReferenceIdeal) (hPre_pre := hPre_pre)
-- ==== Pre_pairs_in_range.lean ====
abbrev S3x640x6144 : Shape := ⟨3, ![3, 640, 6144]⟩
abbrev S32000x3072 : Shape := ⟨2, ![32000, 3072]⟩
abbrev S32000x96 : Shape := ⟨2, ![32000, 96]⟩
abbrev S3x640 : Shape := ⟨2, ![3, 640]⟩
abbrev S6 : Shape := ⟨1, ![6]⟩
abbrev S3 : Shape := ⟨1, ![3]⟩
abbrev S_ : Shape := ⟨0, ![]⟩

class Facts : Prop where
  bcast_S_S3 : S_.BroadcastsInDim S3 (![] : Fin 0 → Fin S3.rank)
  reducesTo_S3_S_d0 : S3.ReducesTo [0] S_
  h_S_ : 0 < S_.numel

variable [Facts]

def fn {F : FTy → Type} [FloatOps F] (main_arg0 : FVec F S3x640x6144 .bf16) (main_arg1 : IVec S32000x3072 8) (main_arg2 : FVec F S32000x96 .f32) (main_arg3 : IVec S3x640 32) (main_arg4 : IVec S3x640 32) (main_arg5 : IVec S3x640 32) (main_arg6 : FVec F S6 .f32) (main_arg7 : IVec S3 32) (main_arg8 : IVec S3 32) : IVec S_ 1 :=
  let main_c : IVec S_ 32 := constantI S_ 32 0#32
  let main_v0 : IVec S3 32 := broadcastInDim S3 ![] bcast_S_S3 main_c
  let main_v1 : IVec S3 1 := cmpi .sge main_arg7 main_v0
  let main_c_0 : IVec S_ 32 := constantI S_ 32 6#32
  let main_v2 : IVec S3 32 := broadcastInDim S3 ![] bcast_S_S3 main_c_0
  let main_v3 : IVec S3 1 := cmpi .slt main_arg7 main_v2
  let main_v4 : IVec S3 1 := andi main_v1 main_v3
  let main_c_1 : IVec S_ 32 := constantI S_ 32 0#32
  let main_v5 : IVec S3 32 := broadcastInDim S3 ![] bcast_S_S3 main_c_1
  let main_v6 : IVec S3 1 := cmpi .sge main_arg8 main_v5
  let main_v7 : IVec S3 1 := andi main_v4 main_v6
  let main_c_2 : IVec S_ 32 := constantI S_ 32 6#32
  let main_v8 : IVec S3 32 := broadcastInDim S3 ![] bcast_S_S3 main_c_2
  let main_v9 : IVec S3 1 := cmpi .slt main_arg8 main_v8
  let main_v10 : IVec S3 1 := andi main_v7 main_v9
  let main_c_3 : IVec S_ 1 := constantI S_ 1 1#1
  let main_v11 : IVec S_ 1 := (fun x v => Host.reduce IntOp.andi x v reducesTo_S3_S_d0 h_S_) main_v10 main_c_3
  main_v11
-- ==== Pre_pre.lean ====
abbrev S3x640x6144 : Shape := ⟨3, ![3, 640, 6144]⟩
abbrev S32000x3072 : Shape := ⟨2, ![32000, 3072]⟩
abbrev S32000x96 : Shape := ⟨2, ![32000, 96]⟩
abbrev S3x640 : Shape := ⟨2, ![3, 640]⟩
abbrev S6 : Shape := ⟨1, ![6]⟩
abbrev S3 : Shape := ⟨1, ![3]⟩
abbrev S_ : Shape := ⟨0, ![]⟩

class Facts : Prop where
  bcast_S_S3 : S_.BroadcastsInDim S3 (![] : Fin 0 → Fin S3.rank)
  reducesTo_S3_S_d0 : S3.ReducesTo [0] S_
  h_S_ : 0 < S_.numel
  bcast_S_S3x640 : S_.BroadcastsInDim S3x640 (![] : Fin 0 → Fin S3x640.rank)
  reducesTo_S3x640_S_d0_1 : S3x640.ReducesTo [0, 1] S_

variable [Facts]

def fn_part1 {F : FTy → Type} [FloatOps F] (main_v11 : IVec S_ 1) (main_v16 : IVec S3x640 1) : IVec S_ 1 :=
  let main_c_6 : IVec S_ 1 := constantI S_ 1 1#1
  let main_v17 : IVec S_ 1 := (fun x v => Host.reduce IntOp.andi x v reducesTo_S3x640_S_d0_1 h_S_) main_v16 main_c_6
  let main_v18 : IVec S_ 1 := andi main_v11 main_v17
  main_v18

def fn {F : FTy → Type} [FloatOps F] (main_arg0 : FVec F S3x640x6144 .bf16) (main_arg1 : IVec S32000x3072 8) (main_arg2 : FVec F S32000x96 .f32) (main_arg3 : IVec S3x640 32) (main_arg4 : IVec S3x640 32) (main_arg5 : IVec S3x640 32) (main_arg6 : FVec F S6 .f32) (main_arg7 : IVec S3 32) (main_arg8 : IVec S3 32) : IVec S_ 1 :=
  let main_c : IVec S_ 32 := constantI S_ 32 0#32
  let main_v0 : IVec S3 32 := broadcastInDim S3 ![] bcast_S_S3 main_c
  let main_v1 : IVec S3 1 := cmpi .sge main_arg7 main_v0
  let main_c_0 : IVec S_ 32 := constantI S_ 32 6#32
  let main_v2 : IVec S3 32 := broadcastInDim S3 ![] bcast_S_S3 main_c_0
  let main_v3 : IVec S3 1 := cmpi .slt main_arg7 main_v2
  let main_v4 : IVec S3 1 := andi main_v1 main_v3
  let main_c_1 : IVec S_ 32 := constantI S_ 32 0#32
  let main_v5 : IVec S3 32 := broadcastInDim S3 ![] bcast_S_S3 main_c_1
  let main_v6 : IVec S3 1 := cmpi .sge main_arg8 main_v5
  let main_v7 : IVec S3 1 := andi main_v4 main_v6
  let main_c_2 : IVec S_ 32 := constantI S_ 32 6#32
  let main_v8 : IVec S3 32 := broadcastInDim S3 ![] bcast_S_S3 main_c_2
  let main_v9 : IVec S3 1 := cmpi .slt main_arg8 main_v8
  let main_v10 : IVec S3 1 := andi main_v7 main_v9
  let main_c_3 : IVec S_ 1 := constantI S_ 1 1#1
  let main_v11 : IVec S_ 1 := (fun x v => Host.reduce IntOp.andi x v reducesTo_S3_S_d0 h_S_) main_v10 main_c_3
  let main_c_4 : IVec S_ 32 := constantI S_ 32 0#32
  let main_v12 : IVec S3x640 32 := broadcastInDim S3x640 ![] bcast_S_S3x640 main_c_4
  let main_v13 : IVec S3x640 1 := cmpi .sge main_arg3 main_v12
  let main_c_5 : IVec S_ 32 := constantI S_ 32 32000#32
  let main_v14 : IVec S3x640 32 := broadcastInDim S3x640 ![] bcast_S_S3x640 main_c_5
  let main_v15 : IVec S3x640 1 := cmpi .slt main_arg3 main_v14
  let main_v16 : IVec S3x640 1 := andi main_v13 main_v15
  fn_part1 (F := F) main_v11 main_v16
-- ==== Kernel.lean ====
abbrev S3x640x6144 : Shape := ⟨3, ![3, 640, 6144]⟩
abbrev S32000x3072 : Shape := ⟨2, ![32000, 3072]⟩
abbrev S32000x96 : Shape := ⟨2, ![32000, 96]⟩
abbrev S3x640 : Shape := ⟨2, ![3, 640]⟩
abbrev S6 : Shape := ⟨1, ![6]⟩
abbrev S3 : Shape := ⟨1, ![3]⟩
abbrev S1920x6144 : Shape := ⟨2, ![1920, 6144]⟩
abbrev S96x32000 : Shape := ⟨2, ![96, 32000]⟩
abbrev S256x3072 : Shape := ⟨2, ![256, 3072]⟩
abbrev S96x256 : Shape := ⟨2, ![96, 256]⟩
abbrev S6144x256 : Shape := ⟨2, ![6144, 256]⟩
abbrev S1920x256 : Shape := ⟨2, ![1920, 256]⟩
abbrev S1920x128 : Shape := ⟨2, ![1920, 128]⟩
abbrev S1x128 : Shape := ⟨2, ![1, 128]⟩
abbrev S128x128 : Shape := ⟨2, ![128, 128]⟩
abbrev S96x128 : Shape := ⟨2, ![96, 128]⟩
abbrev S96x128x1 : Shape := ⟨3, ![96, 128, 1]⟩
abbrev S256x128 : Shape := ⟨2, ![256, 128]⟩
abbrev S64x128 : Shape := ⟨2, ![64, 128]⟩
abbrev S2x128 : Shape := ⟨2, ![2, 128]⟩
abbrev S128 : Shape := ⟨1, ![128]⟩
abbrev S1x1x128 : Shape := ⟨3, ![1, 1, 128]⟩
abbrev S1 : Shape := ⟨1, ![1]⟩
abbrev S1x1x1 : Shape := ⟨3, ![1, 1, 1]⟩
abbrev S8x128 : Shape := ⟨2, ![8, 128]⟩
abbrev S1x8x128 : Shape := ⟨3, ![1, 8, 128]⟩

abbrev nBuf : Space → Nat
  | .hbm => 15
  | .vmem => 16
  | .smem => 6
  | _ => 0

abbrev bufTy : (tb : Table) → Fin (tcTables nBuf tb) → BufTy
  | .hbm, ⟨0, _⟩ => ⟨S3x640x6144, .bf16⟩
  | .hbm, ⟨1, _⟩ => ⟨S32000x3072, .i8⟩
  | .hbm, ⟨2, _⟩ => ⟨S32000x96, .f32⟩
  | .hbm, ⟨3, _⟩ => ⟨S3x640, .i32⟩
  | .hbm, ⟨4, _⟩ => ⟨S3x640, .i32⟩
  | .hbm, ⟨5, _⟩ => ⟨S3x640, .i32⟩
  | .hbm, ⟨6, _⟩ => ⟨S6, .f32⟩
  | .hbm, ⟨7, _⟩ => ⟨S3, .i32⟩
  | .hbm, ⟨8, _⟩ => ⟨S3, .i32⟩
  | .hbm, ⟨9, _⟩ => ⟨S1920x6144, .bf16⟩
  | .hbm, ⟨10, _⟩ => ⟨S96x32000, .f32⟩
  | .hbm, ⟨11, _⟩ => ⟨S6, .f32⟩
  | .hbm, ⟨12, _⟩ => ⟨S3, .f32⟩
  | .hbm, ⟨13, _⟩ => ⟨S3, .f32⟩
  | .hbm, ⟨14, _⟩ => ⟨S3x640, .f32⟩
  | .local _ .vmem, ⟨0, _⟩ => ⟨S1920x6144, .bf16⟩
  | .local _ .vmem, ⟨1, _⟩ => ⟨S256x3072, .i8⟩
  | .local _ .vmem, ⟨2, _⟩ => ⟨S256x3072, .i8⟩
  | .local _ .vmem, ⟨3, _⟩ => ⟨S96x256, .f32⟩
  | .local _ .vmem, ⟨4, _⟩ => ⟨S96x256, .f32⟩
  | .local _ .vmem, ⟨5, _⟩ => ⟨S3x640, .i32⟩
  | .local _ .vmem, ⟨6, _⟩ => ⟨S3x640, .i32⟩
  | .local _ .vmem, ⟨7, _⟩ => ⟨S3x640, .i32⟩
  | .local _ .vmem, ⟨8, _⟩ => ⟨S3x640, .f32⟩
  | .local _ .vmem, ⟨9, _⟩ => ⟨S96x256, .i32⟩
  | .local _ .vmem, ⟨10, _⟩ => ⟨S6144x256, .bf16⟩
  | .local _ .vmem, ⟨11, _⟩ => ⟨S1920x256, .f32⟩
  | .local _ .vmem, ⟨12, _⟩ => ⟨S1920x128, .i32⟩
  | .local _ .vmem, ⟨13, _⟩ => ⟨S1920x128, .f32⟩
  | .local _ .vmem, ⟨14, _⟩ => ⟨S1920x128, .f32⟩
  | .local _ .vmem, ⟨15, _⟩ => ⟨S1920x128, .f32⟩
  | .local _ .smem, ⟨0, _⟩ => ⟨S6, .f32⟩
  | .local _ .smem, ⟨1, _⟩ => ⟨S3, .i32⟩
  | .local _ .smem, ⟨2, _⟩ => ⟨S3, .i32⟩
  | .local _ .smem, ⟨3, _⟩ => ⟨S6, .f32⟩
  | .local _ .smem, ⟨4, _⟩ => ⟨S3, .f32⟩
  | .local _ .smem, ⟨5, _⟩ => ⟨S3, .f32⟩
  | _, _ => ⟨S3x640x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | .smem, ⟨1, _⟩ => true
  | .smem, ⟨2, _⟩ => true
  | .smem, ⟨3, _⟩ => true
  | .smem, ⟨4, _⟩ => true
  | .smem, ⟨5, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2_0 : Ref sig .tc := ⟨.hbm, 11, rfl⟩
abbrev main_v2_1 : Ref sig .tc := ⟨.hbm, 12, rfl⟩
abbrev main_v2_2 : Ref sig .tc := ⟨.hbm, 13, rfl⟩
abbrev main_v2_3 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg12_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_scratch5 : Ref sig .tc := ⟨.vmem, 14, rfl⟩
abbrev cc0_scratch6 : Ref sig .tc := ⟨.vmem, 15, rfl⟩
abbrev cc0_stg6_0 : Ref sig .tc := ⟨.smem, 0, rfl⟩
abbrev cc0_stg7_0 : Ref sig .tc := ⟨.smem, 1, rfl⟩
abbrev cc0_stg8_0 : Ref sig .tc := ⟨.smem, 2, rfl⟩
abbrev cc0_stg9_0 : Ref sig .tc := ⟨.smem, 3, rfl⟩
abbrev cc0_stg10_0 : Ref sig .tc := ⟨.smem, 4, rfl⟩
abbrev cc0_stg11_0 : Ref sig .tc := ⟨.smem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14

abbrev nD : Nat := 1
abbrev τ : Topo := Topo.v7x

variable {F : FTy → Type} [BitOps F]

abbrev grid0 : Pipeline.Grid := ⟨1, ![125], ![false]⟩

@[reducible] def k0_t1_loop : Scf.Loop 32 :=
  let c0_i32_957 : BitVec 32 := 0#32
  let c30_i32 : BitVec 32 := 30#32
  let v2821 : BitVec 32 := Scalar.addi c0_i32_957 c30_i32
  let c1_i32 : BitVec 32 := 1#32
  ⟨c0_i32_957, v2821, c1_i32⟩
def k0_mult1 (k0_t1 : Fin k0_t1_loop.trips) : BitVec 32 :=
  let c0_i32_957 : BitVec 32 := 0#32
  let c1_i32 : BitVec 32 := 1#32
  let arg21 : BitVec 32 := Scf.iv c0_i32_957 c1_i32 k0_t1
  let c64_i32_960 : BitVec 32 := 64#32
  let v2825 : BitVec 32 := Scalar.muli arg21 c64_i32_960
  v2825
def k0_off1 (k0_t1 : Fin k0_t1_loop.trips) : Fin 2 → Nat :=
  let c0_i32_957 : BitVec 32 := 0#32
  let c1_i32 : BitVec 32 := 1#32
  let arg21 : BitVec 32 := Scf.iv c0_i32_957 c1_i32 k0_t1
  let c64_i32_960 : BitVec 32 := 64#32
  let v2825 : BitVec 32 := Scalar.muli arg21 c64_i32_960
  let v2826 : BitVec 32 := v2825
  let v2827 : Index := Scalar.indexCast v2826
  let c0_961 : Index := 0#32
  ![v2827.toNat, 0]
def k0_off2 (k0_t1 : Fin k0_t1_loop.trips) : Fin 2 → Nat :=
  let c0_i32_957 : BitVec 32 := 0#32
  let c1_i32 : BitVec 32 := 1#32
  let arg21 : BitVec 32 := Scf.iv c0_i32_957 c1_i32 k0_t1
  let c64_i32_960 : BitVec 32 := 64#32
  let v2825 : BitVec 32 := Scalar.muli arg21 c64_i32_960
  let v2826 : BitVec 32 := v2825
  let v2829 : Index := Scalar.indexCast v2826
  let c128_962 : Index := 128#32
  ![v2829.toNat, 128]
def k0_off3 (k0_t1 : Fin k0_t1_loop.trips) : Fin 2 → Nat :=
  let c0_i32_957 : BitVec 32 := 0#32
  let c1_i32 : BitVec 32 := 1#32
  let arg21 : BitVec 32 := Scf.iv c0_i32_957 c1_i32 k0_t1
  let c64_i32_960 : BitVec 32 := 64#32
  let v2825 : BitVec 32 := Scalar.muli arg21 c64_i32_960
  let v2826 : BitVec 32 := v2825
  let v2831 : Index := Scalar.indexCast v2826
  let c0_963 : Index := 0#32
  ![v2831.toNat, 0]
def k0_cond2 (i : grid0.Coords) : BitVec 1 :=
  let arg0 : BitVec 32 := BitVec.ofNat 32 (i 0).val
  let c124_i32 : BitVec 32 := 124#32
  let v2822 : BitVec 1 := Scalar.cmpi .eq arg0 c124_i32
  let v2823 : BitVec 32 := Scalar.extui v2822
  let c0_i32_959 : BitVec 32 := 0#32
  let v2824 : BitVec 1 := Scalar.cmpi .ne v2823 c0_i32_959
  v2824

def k0_off4 (v3671 : BitVec 32) : Fin 1 → Nat :=
  let v3673 : Index := Scalar.indexCast v3671
  ![v3673.toNat]

def k0_chk1 (i : grid0.Coords) (v3671 : BitVec 32) : Prop :=
  (∀ (k0_h2 : k0_cond2 i = 1#1), ∀ a, (k0_off4 v3671) a + S1.size a ≤ S6.size a)
theorem k0_off4_inb : ∀ (i : grid0.Coords) (v3671 : BitVec 32) (k0_hw1 : k0_chk1 i v3671), ∀ (k0_h2 : k0_cond2 i = 1#1), ∀ a, (k0_off4 v3671) a + S1.size a ≤ S6.size a := fun i v3671 k0_hw1 k0_h2 => k0_hw1 k0_h2

def k0_off5 (v3672 : BitVec 32) : Fin 1 → Nat :=
  let v3678 : Index := Scalar.indexCast v3672
  ![v3678.toNat]

def k0_chk2 (i : grid0.Coords) (v3672 : BitVec 32) : Prop :=
  (∀ (k0_h2 : k0_cond2 i = 1#1), ∀ a, (k0_off5 v3672) a + S1.size a ≤ S6.size a)
theorem k0_off5_inb : ∀ (i : grid0.Coords) (v3672 : BitVec 32) (k0_hw2 : k0_chk2 i v3672), ∀ (k0_h2 : k0_cond2 i = 1#1), ∀ a, (k0_off5 v3672) a + S1.size a ≤ S6.size a := fun i v3672 k0_hw2 k0_h2 => k0_hw2 k0_h2

def k0_off6 (v3701 : BitVec 32) : Fin 1 → Nat :=
  let v3703 : Index := Scalar.indexCast v3701
  ![v3703.toNat]

def k0_chk3 (i : grid0.Coords) (v3701 : BitVec 32) : Prop :=
  (∀ (k0_h2 : k0_cond2 i = 1#1), ∀ a, (k0_off6 v3701) a + S1.size a ≤ S6.size a)
theorem k0_off6_inb : ∀ (i : grid0.Coords) (v3701 : BitVec 32) (k0_hw3 : k0_chk3 i v3701), ∀ (k0_h2 : k0_cond2 i = 1#1), ∀ a, (k0_off6 v3701) a + S1.size a ≤ S6.size a := fun i v3701 k0_hw3 k0_h2 => k0_hw3 k0_h2

def k0_off7 (v3702 : BitVec 32) : Fin 1 → Nat :=
  let v3708 : Index := Scalar.indexCast v3702
  ![v3708.toNat]

def k0_chk4 (i : grid0.Coords) (v3702 : BitVec 32) : Prop :=
  (∀ (k0_h2 : k0_cond2 i = 1#1), ∀ a, (k0_off7 v3702) a + S1.size a ≤ S6.size a)
theorem k0_off7_inb : ∀ (i : grid0.Coords) (v3702 : BitVec 32) (k0_hw4 : k0_chk4 i v3702), ∀ (k0_h2 : k0_cond2 i = 1#1), ∀ a, (k0_off7 v3702) a + S1.size a ≤ S6.size a := fun i v3702 k0_hw4 k0_h2 => k0_hw4 k0_h2

def k0_off8 (v3731 : BitVec 32) : Fin 1 → Nat :=
  let v3733 : Index := Scalar.indexCast v3731
  ![v3733.toNat]

def k0_chk5 (i : grid0.Coords) (v3731 : BitVec 32) : Prop :=
  (∀ (k0_h2 : k0_cond2 i = 1#1), ∀ a, (k0_off8 v3731) a + S1.size a ≤ S6.size a)
theorem k0_off8_inb : ∀ (i : grid0.Coords) (v3731 : BitVec 32) (k0_hw5 : k0_chk5 i v3731), ∀ (k0_h2 : k0_cond2 i = 1#1), ∀ a, (k0_off8 v3731) a + S1.size a ≤ S6.size a := fun i v3731 k0_hw5 k0_h2 => k0_hw5 k0_h2

def k0_off9 (v3732 : BitVec 32) : Fin 1 → Nat :=
  let v3738 : Index := Scalar.indexCast v3732
  ![v3738.toNat]

def k0_chk6 (i : grid0.Coords) (v3732 : BitVec 32) : Prop :=
  (∀ (k0_h2 : k0_cond2 i = 1#1), ∀ a, (k0_off9 v3732) a + S1.size a ≤ S6.size a)
theorem k0_off9_inb : ∀ (i : grid0.Coords) (v3732 : BitVec 32) (k0_hw6 : k0_chk6 i v3732), ∀ (k0_h2 : k0_cond2 i = 1#1), ∀ a, (k0_off9 v3732) a + S1.size a ≤ S6.size a := fun i v3732 k0_hw6 k0_h2 => k0_hw6 k0_h2

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S1920x6144 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x3072 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S96x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S3x640 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S3x640 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S3x640 .i32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .smem S6 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .smem S3 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .smem S3 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .smem S6 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .smem S3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .smem S3 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S3x640 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]
-- ==== KernelIdeal.lean ====
abbrev S96x2x256 : Shape := ⟨3, ![96, 2, 256]⟩
abbrev S96x1x256 : Shape := ⟨3, ![96, 1, 256]⟩
abbrev S96x2x128 : Shape := ⟨3, ![96, 2, 128]⟩
abbrev S96x1x128 : Shape := ⟨3, ![96, 1, 128]⟩
abbrev S1x2x128 : Shape := ⟨3, ![1, 2, 128]⟩
  | .local _ .vmem, ⟨9, _⟩ => ⟨S96x2x256, .bf16⟩
variable {F : FTy → Type} [FloatOps F]
-- ==== ReferenceIdeal.lean ====
abbrev S3x640x6144 : Shape := ⟨3, ![3, 640, 6144]⟩
abbrev S32000x3072 : Shape := ⟨2, ![32000, 3072]⟩
abbrev S32000x96 : Shape := ⟨2, ![32000, 96]⟩
abbrev S3x640 : Shape := ⟨2, ![3, 640]⟩
abbrev S6 : Shape := ⟨1, ![6]⟩
abbrev S3 : Shape := ⟨1, ![3]⟩
abbrev S32000x96x32 : Shape := ⟨3, ![32000, 96, 32]⟩
abbrev S_ : Shape := ⟨0, ![]⟩
abbrev S1920x6144 : Shape := ⟨2, ![1920, 6144]⟩
abbrev S1920x3072 : Shape := ⟨2, ![1920, 3072]⟩
abbrev S1920x32000 : Shape := ⟨2, ![1920, 32000]⟩
abbrev S1920 : Shape := ⟨1, ![1920]⟩
abbrev S1920x1 : Shape := ⟨2, ![1920, 1]⟩
abbrev S1920x1x1 : Shape := ⟨3, ![1920, 1, 1]⟩

abbrev nBuf : Space → Nat
  | .hbm => 71
  | .vmem => 0
  | .smem => 0
  | _ => 0

abbrev bufTy : (tb : Table) → Fin (tcTables nBuf tb) → BufTy
  | .hbm, ⟨0, _⟩ => ⟨S3x640x6144, .bf16⟩
  | .hbm, ⟨1, _⟩ => ⟨S32000x3072, .i8⟩
  | .hbm, ⟨2, _⟩ => ⟨S32000x96, .f32⟩
  | .hbm, ⟨3, _⟩ => ⟨S3x640, .i32⟩
  | .hbm, ⟨4, _⟩ => ⟨S3x640, .i32⟩
  | .hbm, ⟨5, _⟩ => ⟨S3x640, .i32⟩
  | .hbm, ⟨6, _⟩ => ⟨S6, .f32⟩
  | .hbm, ⟨7, _⟩ => ⟨S3, .i32⟩
  | .hbm, ⟨8, _⟩ => ⟨S3, .i32⟩
  | .hbm, ⟨9, _⟩ => ⟨S32000x3072, .i32⟩
  | .hbm, ⟨10, _⟩ => ⟨S32000x96, .bf16⟩
  | .hbm, ⟨11, _⟩ => ⟨S32000x96x32, .bf16⟩
  | .hbm, ⟨12, _⟩ => ⟨S32000x3072, .bf16⟩
  | .hbm, ⟨13, _⟩ => ⟨S_, .i32⟩
  | .hbm, ⟨14, _⟩ => ⟨S32000x3072, .i32⟩
  | .hbm, ⟨15, _⟩ => ⟨S32000x3072, .i32⟩
  | .hbm, ⟨16, _⟩ => ⟨S_, .i32⟩
  | .hbm, ⟨17, _⟩ => ⟨S32000x3072, .i32⟩
  | .hbm, ⟨18, _⟩ => ⟨S32000x3072, .i1⟩
  | .hbm, ⟨19, _⟩ => ⟨S_, .i32⟩
  | .hbm, ⟨20, _⟩ => ⟨S32000x3072, .i32⟩
  | .hbm, ⟨21, _⟩ => ⟨S32000x3072, .i32⟩
  | .hbm, ⟨22, _⟩ => ⟨S32000x3072, .i32⟩
  | .hbm, ⟨23, _⟩ => ⟨S32000x3072, .i8⟩
  | .hbm, ⟨24, _⟩ => ⟨S32000x3072, .i32⟩
  | .hbm, ⟨25, _⟩ => ⟨S32000x3072, .bf16⟩
  | .hbm, ⟨26, _⟩ => ⟨S32000x3072, .bf16⟩
  | .hbm, ⟨27, _⟩ => ⟨S_, .i32⟩
  | .hbm, ⟨28, _⟩ => ⟨S32000x3072, .i32⟩
  | .hbm, ⟨29, _⟩ => ⟨S32000x3072, .i32⟩
  | .hbm, ⟨30, _⟩ => ⟨S_, .i32⟩
  | .hbm, ⟨31, _⟩ => ⟨S32000x3072, .i32⟩
  | .hbm, ⟨32, _⟩ => ⟨S32000x3072, .i1⟩
  | .hbm, ⟨33, _⟩ => ⟨S_, .i32⟩
  | .hbm, ⟨34, _⟩ => ⟨S32000x3072, .i32⟩
  | .hbm, ⟨35, _⟩ => ⟨S32000x3072, .i32⟩
  | .hbm, ⟨36, _⟩ => ⟨S32000x3072, .i32⟩
  | .hbm, ⟨37, _⟩ => ⟨S32000x3072, .i8⟩
  | .hbm, ⟨38, _⟩ => ⟨S32000x3072, .i32⟩
  | .hbm, ⟨39, _⟩ => ⟨S32000x3072, .bf16⟩
  | .hbm, ⟨40, _⟩ => ⟨S32000x3072, .bf16⟩
  | .hbm, ⟨41, _⟩ => ⟨S1920x6144, .bf16⟩
  | .hbm, ⟨42, _⟩ => ⟨S1920x3072, .bf16⟩
  | .hbm, ⟨43, _⟩ => ⟨S1920x32000, .f32⟩
  | .hbm, ⟨44, _⟩ => ⟨S1920x3072, .bf16⟩
  | .hbm, ⟨45, _⟩ => ⟨S1920x32000, .f32⟩
  | .hbm, ⟨46, _⟩ => ⟨S1920x32000, .f32⟩
  | .hbm, ⟨47, _⟩ => ⟨S_, .f32⟩
  | .hbm, ⟨48, _⟩ => ⟨S1920, .f32⟩
  | .hbm, ⟨49, _⟩ => ⟨S1920x1, .f32⟩
  | .hbm, ⟨50, _⟩ => ⟨S1920x32000, .f32⟩
  | .hbm, ⟨51, _⟩ => ⟨S1920x32000, .f32⟩
  | .hbm, ⟨52, _⟩ => ⟨S1920x32000, .f32⟩
  | .hbm, ⟨53, _⟩ => ⟨S_, .f32⟩
  | .hbm, ⟨54, _⟩ => ⟨S1920, .f32⟩
  | .hbm, ⟨55, _⟩ => ⟨S1920, .f32⟩
  | .hbm, ⟨56, _⟩ => ⟨S1920, .f32⟩
  | .hbm, ⟨57, _⟩ => ⟨S1920, .f32⟩
  | .hbm, ⟨58, _⟩ => ⟨S1920x1, .i32⟩
  | .hbm, ⟨59, _⟩ => ⟨S_, .i32⟩
  | .hbm, ⟨60, _⟩ => ⟨S1920x1, .i32⟩
  | .hbm, ⟨61, _⟩ => ⟨S1920x1, .i1⟩
  | .hbm, ⟨62, _⟩ => ⟨S_, .i32⟩
  | .hbm, ⟨63, _⟩ => ⟨S1920x1, .i32⟩
  | .hbm, ⟨64, _⟩ => ⟨S1920x1, .i32⟩
  | .hbm, ⟨65, _⟩ => ⟨S1920x1, .i32⟩
  | .hbm, ⟨66, _⟩ => ⟨S1920x1x1, .i32⟩
  | .hbm, ⟨67, _⟩ => ⟨S1920x1, .f32⟩
  | .hbm, ⟨68, _⟩ => ⟨S1920, .f32⟩
  | .hbm, ⟨69, _⟩ => ⟨S1920, .f32⟩
  | .hbm, ⟨70, _⟩ => ⟨S3x640, .f32⟩
  | _, _ => ⟨S3x640x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_c : Ref sig .tc := ⟨.hbm, 13, rfl⟩
abbrev main_v4 : Ref sig .tc := ⟨.hbm, 14, rfl⟩
abbrev main_v5 : Ref sig .tc := ⟨.hbm, 15, rfl⟩
abbrev main_c_0 : Ref sig .tc := ⟨.hbm, 16, rfl⟩
abbrev main_v6 : Ref sig .tc := ⟨.hbm, 17, rfl⟩
abbrev main_v7 : Ref sig .tc := ⟨.hbm, 18, rfl⟩
abbrev main_c_1 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_c_2 : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_5 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_call2_c : Ref sig .tc := ⟨.hbm, 59, rfl⟩
abbrev main_call2_v0 : Ref sig .tc := ⟨.hbm, 60, rfl⟩
abbrev main_call2_v1 : Ref sig .tc := ⟨.hbm, 61, rfl⟩
abbrev main_call2_c_0 : Ref sig .tc := ⟨.hbm, 62, rfl⟩
abbrev main_call2_v2 : Ref sig .tc := ⟨.hbm, 63, rfl⟩
abbrev main_call2_v3 : Ref sig .tc := ⟨.hbm, 64, rfl⟩
abbrev main_call2_v4 : Ref sig .tc := ⟨.hbm, 65, rfl⟩
abbrev main_call2_v5 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩

abbrev nD : Nat := 1
abbrev τ : Topo := Topo.v7x

variable {F : FTy → Type} [FloatOps F]
-- ==== Proof.PrintedSetting.lean ====
/- What the runs of the body of the kernel as printed are stated over, at one grid point: the two conditions of the body in
   closed form over the point's number, the staging buffers a point uses, the conditions the body assumes of the index words
   it loads, and the scratch buffers. The first condition holds at the first point, the second at the last. -/
module

public import proofs.«01_k».proof.Proof.Gen.Kernel.Frame
public import proofs.«01_k».proof.Proof.Gen.Kernel.Launch
public import proofs.«01_k».proof.Proof.Gen.Kernel.Skeleton
public import proofs.«01_k».proof.Proof.Gen.Kernel.Loops
public import proofs.«01_k».proof.Proof.Gen.Kernel.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## @main up to the region -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 125 = 0 :=
  (fun t => by
    have ht : t.val < 125 := Nat.lt_of_lt_of_eq t.isLt N_0
    have e0 : (grid0.coords t 0).val = t.val / 1 % 125 := Pipeline.Grid.coords_val t 0 (by decide) rfl
    simp only [cond0_0, e0]
    word_cmp
   : ∀ t : Fin grid0.N, cond0_0 (grid0.coords t) ↔ t.val % 125 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 125 = 124 :=
  (fun t => by
    have ht : t.val < 125 := Nat.lt_of_lt_of_eq t.isLt N_0
    have e0 : (grid0.coords t 0).val = t.val / 1 % 125 := Pipeline.Grid.coords_val t 0 (by decide) rfl
    simp only [cond0_1, k0_cond2, e0]
    word_cmp
   : ∀ t : Fin grid0.N, cond0_1 (grid0.coords t) ↔ t.val % 125 = 124)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1920x6144 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x3072 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S96x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x640 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x640 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x640 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .smem S6 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S3 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .smem S3 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .smem S6 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .smem S3 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .smem S3 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S3x640 .f32 := win0_12.stage (cfg0.slots t 12)
abbrev hs0_12 (t : Fin cfg0.N) : (ms0_12 t).IsWhole := hstage0_12 ((cfg0.slots t 12).cast nbuf0_12)

/-! ## The side conditions the body assumes, as the frame's hypothesis -/

/-- The side conditions the body ASSUMES of words it loads from its input SMEM windows, or inside a counted
    loop of the loop's carried counter at every trip (the printed `TpuEff.assume
    (kK_chkN …)`: facts computed from the words that no program decides for every word), at EVERY point, over the
    words of the argument blocks there — spelled as each case's run reads them (`View.readAt` through the window's
    memref at its held contents), each under the conditions of the branches it sits inside. The frame holds
    under it; Proof.lean proves it from the certificate's
    precondition (`hyps_of_pre`; `View.readAt_apply` and `Memref.IsWhole.read_unread` rewrite a conjunct to the
    predicate at the block's word). -/
def Hyps (m : (ℓ : Loc nD τ sig) → Buf (Elt F) ℓ) : Prop :=
  ∀ (c : Dev nD) (t : Fin cfg0.N),
    (cond0_1 (grid0.coords t) → k0_chk1 (grid0.coords t) ((ms0_7 t).view.readAt (Elt F) (Rect.unit (s := S3) ![0] S1.size inb_S3_S1_0).toLoadRect ((hs0_7 t).unread (iblk m c 7 t)) (Shape.Idx.first (numel1_S1.symm ▸ Nat.one_pos))))
    ∧ (cond0_1 (grid0.coords t) → k0_chk2 (grid0.coords t) ((ms0_8 t).view.readAt (Elt F) (Rect.unit (s := S3) ![0] S1.size inb_S3_S1_0).toLoadRect ((hs0_8 t).unread (iblk m c 8 t)) (Shape.Idx.first (numel1_S1.symm ▸ Nat.one_pos))))
    ∧ (cond0_1 (grid0.coords t) → k0_chk3 (grid0.coords t) ((ms0_7 t).view.readAt (Elt F) (Rect.unit (s := S3) ![1] S1.size inb_S3_S1_1).toLoadRect ((hs0_7 t).unread (iblk m c 7 t)) (Shape.Idx.first (numel1_S1.symm ▸ Nat.one_pos))))
    ∧ (cond0_1 (grid0.coords t) → k0_chk4 (grid0.coords t) ((ms0_8 t).view.readAt (Elt F) (Rect.unit (s := S3) ![1] S1.size inb_S3_S1_1).toLoadRect ((hs0_8 t).unread (iblk m c 8 t)) (Shape.Idx.first (numel1_S1.symm ▸ Nat.one_pos))))
    ∧ (cond0_1 (grid0.coords t) → k0_chk5 (grid0.coords t) ((ms0_7 t).view.readAt (Elt F) (Rect.unit (s := S3) ![2] S1.size inb_S3_S1_2).toLoadRect ((hs0_7 t).unread (iblk m c 7 t)) (Shape.Idx.first (numel1_S1.symm ▸ Nat.one_pos))))
    ∧ (cond0_1 (grid0.coords t) → k0_chk6 (grid0.coords t) ((ms0_8 t).view.readAt (Elt F) (Rect.unit (s := S3) ![2] S1.size inb_S3_S1_2).toLoadRect ((hs0_8 t).unread (iblk m c 8 t)) (Shape.Idx.first (numel1_S1.symm ▸ Nat.one_pos))))

/-! Each conjunct of `Gen.Hyps` by name: its statement (`Hyps.pN`), a lemma citing it (`Hyps.cN`: what a run, or a
    statement over it, takes for that side condition), and `Gen.Hyps` built from one proof per conjunct (`Hyps.of`:
    what Proof.lean's `hyps_of_pre` applies). -/

/-- Conjunct 0 of `Gen.Hyps` at point `t`: the side condition `k0_chk1` the body assumes as `k0_hw1`, under the conditions of the branches it sits inside. -/
abbrev Hyps.p0 (m : (ℓ : Loc nD τ sig) → Buf (Elt F) ℓ) (c : Dev nD) (t : Fin cfg0.N) : Prop :=
  (cond0_1 (grid0.coords t) → k0_chk1 (grid0.coords t) ((ms0_7 t).view.readAt (Elt F) (Rect.unit (s := S3) ![0] S1.size inb_S3_S1_0).toLoadRect ((hs0_7 t).unread (iblk m c 7 t)) (Shape.Idx.first (numel1_S1.symm ▸ Nat.one_pos))))
variable {m} in
theorem Hyps.c0 (hH : Hyps m) (c : Dev nD) (t : Fin cfg0.N) :
    (cond0_1 (grid0.coords t) → k0_chk1 (grid0.coords t) ((ms0_7 t).view.readAt (Elt F) (Rect.unit (s := S3) ![0] S1.size inb_S3_S1_0).toLoadRect ((hs0_7 t).unread (iblk m c 7 t)) (Shape.Idx.first (numel1_S1.symm ▸ Nat.one_pos)))) := (hH c t).1
/-- Conjunct 1 of `Gen.Hyps` at point `t`: the side condition `k0_chk2` the body assumes as `k0_hw2`, under the conditions of the branches it sits inside. -/
abbrev Hyps.p1 (m : (ℓ : Loc nD τ sig) → Buf (Elt F) ℓ) (c : Dev nD) (t : Fin cfg0.N) : Prop :=
  (cond0_1 (grid0.coords t) → k0_chk2 (grid0.coords t) ((ms0_8 t).view.readAt (Elt F) (Rect.unit (s := S3) ![0] S1.size inb_S3_S1_0).toLoadRect ((hs0_8 t).unread (iblk m c 8 t)) (Shape.Idx.first (numel1_S1.symm ▸ Nat.one_pos))))
variable {m} in
theorem Hyps.c1 (hH : Hyps m) (c : Dev nD) (t : Fin cfg0.N) :
    (cond0_1 (grid0.coords t) → k0_chk2 (grid0.coords t) ((ms0_8 t).view.readAt (Elt F) (Rect.unit (s := S3) ![0] S1.size inb_S3_S1_0).toLoadRect ((hs0_8 t).unread (iblk m c 8 t)) (Shape.Idx.first (numel1_S1.symm ▸ Nat.one_pos)))) := (hH c t).2.1
/-- Conjunct 2 of `Gen.Hyps` at point `t`: the side condition `k0_chk3` the body assumes as `k0_hw3`, under the conditions of the branches it sits inside. -/
abbrev Hyps.p2 (m : (ℓ : Loc nD τ sig) → Buf (Elt F) ℓ) (c : Dev nD) (t : Fin cfg0.N) : Prop :=
  (cond0_1 (grid0.coords t) → k0_chk3 (grid0.coords t) ((ms0_7 t).view.readAt (Elt F) (Rect.unit (s := S3) ![1] S1.size inb_S3_S1_1).toLoadRect ((hs0_7 t).unread (iblk m c 7 t)) (Shape.Idx.first (numel1_S1.symm ▸ Nat.one_pos))))
variable {m} in
theorem Hyps.c2 (hH : Hyps m) (c : Dev nD) (t : Fin cfg0.N) :
    (cond0_1 (grid0.coords t) → k0_chk3 (grid0.coords t) ((ms0_7 t).view.readAt (Elt F) (Rect.unit (s := S3) ![1] S1.size inb_S3_S1_1).toLoadRect ((hs0_7 t).unread (iblk m c 7 t)) (Shape.Idx.first (numel1_S1.symm ▸ Nat.one_pos)))) := (hH c t).2.2.1
/-- Conjunct 3 of `Gen.Hyps` at point `t`: the side condition `k0_chk4` the body assumes as `k0_hw4`, under the conditions of the branches it sits inside. -/
abbrev Hyps.p3 (m : (ℓ : Loc nD τ sig) → Buf (Elt F) ℓ) (c : Dev nD) (t : Fin cfg0.N) : Prop :=
  (cond0_1 (grid0.coords t) → k0_chk4 (grid0.coords t) ((ms0_8 t).view.readAt (Elt F) (Rect.unit (s := S3) ![1] S1.size inb_S3_S1_1).toLoadRect ((hs0_8 t).unread (iblk m c 8 t)) (Shape.Idx.first (numel1_S1.symm ▸ Nat.one_pos))))
variable {m} in
theorem Hyps.c3 (hH : Hyps m) (c : Dev nD) (t : Fin cfg0.N) :
    (cond0_1 (grid0.coords t) → k0_chk4 (grid0.coords t) ((ms0_8 t).view.readAt (Elt F) (Rect.unit (s := S3) ![1] S1.size inb_S3_S1_1).toLoadRect ((hs0_8 t).unread (iblk m c 8 t)) (Shape.Idx.first (numel1_S1.symm ▸ Nat.one_pos)))) := (hH c t).2.2.2.1
/-- Conjunct 4 of `Gen.Hyps` at point `t`: the side condition `k0_chk5` the body assumes as `k0_hw5`, under the conditions of the branches it sits inside. -/
abbrev Hyps.p4 (m : (ℓ : Loc nD τ sig) → Buf (Elt F) ℓ) (c : Dev nD) (t : Fin cfg0.N) : Prop :=
  (cond0_1 (grid0.coords t) → k0_chk5 (grid0.coords t) ((ms0_7 t).view.readAt (Elt F) (Rect.unit (s := S3) ![2] S1.size inb_S3_S1_2).toLoadRect ((hs0_7 t).unread (iblk m c 7 t)) (Shape.Idx.first (numel1_S1.symm ▸ Nat.one_pos))))
variable {m} in
theorem Hyps.c4 (hH : Hyps m) (c : Dev nD) (t : Fin cfg0.N) :
    (cond0_1 (grid0.coords t) → k0_chk5 (grid0.coords t) ((ms0_7 t).view.readAt (Elt F) (Rect.unit (s := S3) ![2] S1.size inb_S3_S1_2).toLoadRect ((hs0_7 t).unread (iblk m c 7 t)) (Shape.Idx.first (numel1_S1.symm ▸ Nat.one_pos)))) := (hH c t).2.2.2.2.1
/-- Conjunct 5 of `Gen.Hyps` at point `t`: the side condition `k0_chk6` the body assumes as `k0_hw6`, under the conditions of the branches it sits inside. -/
abbrev Hyps.p5 (m : (ℓ : Loc nD τ sig) → Buf (Elt F) ℓ) (c : Dev nD) (t : Fin cfg0.N) : Prop :=
  (cond0_1 (grid0.coords t) → k0_chk6 (grid0.coords t) ((ms0_8 t).view.readAt (Elt F) (Rect.unit (s := S3) ![2] S1.size inb_S3_S1_2).toLoadRect ((hs0_8 t).unread (iblk m c 8 t)) (Shape.Idx.first (numel1_S1.symm ▸ Nat.one_pos))))
variable {m} in
theorem Hyps.c5 (hH : Hyps m) (c : Dev nD) (t : Fin cfg0.N) :
    (cond0_1 (grid0.coords t) → k0_chk6 (grid0.coords t) ((ms0_8 t).view.readAt (Elt F) (Rect.unit (s := S3) ![2] S1.size inb_S3_S1_2).toLoadRect ((hs0_8 t).unread (iblk m c 8 t)) (Shape.Idx.first (numel1_S1.symm ▸ Nat.one_pos)))) := (hH c t).2.2.2.2.2
variable {m} in
theorem Hyps.of
    (p0 : ∀ (c : Dev nD) (t : Fin cfg0.N), Hyps.p0 m c t)
    (p1 : ∀ (c : Dev nD) (t : Fin cfg0.N), Hyps.p1 m c t)
    (p2 : ∀ (c : Dev nD) (t : Fin cfg0.N), Hyps.p2 m c t)
    (p3 : ∀ (c : Dev nD) (t : Fin cfg0.N), Hyps.p3 m c t)
    (p4 : ∀ (c : Dev nD) (t : Fin cfg0.N), Hyps.p4 m c t)
    (p5 : ∀ (c : Dev nD) (t : Fin cfg0.N), Hyps.p5 m c t) :
    Hyps m := fun c t =>
  And.intro (p0 c t) (And.intro (p1 c t) (And.intro (p2 c t) (And.intro (p3 c t) (And.intro (p4 c t) (p5 c t)))))

/-- The scratch operands: whole scoped buffers of the kernel's own, passed beside the windows. -/
abbrev scM0_0 : Memref sig .tc .vmem S96x256 .i32 := Memref.whole cc0_scratch0
abbrev scM0_1 : Memref sig .tc .vmem S6144x256 .bf16 := Memref.whole cc0_scratch1
abbrev scM0_2 : Memref sig .tc .vmem S1920x256 .f32 := Memref.whole cc0_scratch2
abbrev scM0_3 : Memref sig .tc .vmem S1920x128 .i32 := Memref.whole cc0_scratch3
abbrev scM0_4 : Memref sig .tc .vmem S1920x128 .f32 := Memref.whole cc0_scratch4
abbrev scM0_5 : Memref sig .tc .vmem S1920x128 .f32 := Memref.whole cc0_scratch5
abbrev scM0_6 : Memref sig .tc .vmem S1920x128 .f32 := Memref.whole cc0_scratch6
/-- The scratch `arg17` the kernel carries between points, as a view: what it holds is stated through it. -/
abbrev VS0_3 : View sig .tc .vmem S1920x128 .i32 := scM0_3.view
/-- The scratch `arg18` the kernel carries between points, as a view: what it holds is stated through it. -/
abbrev VS0_4 : View sig .tc .vmem S1920x128 .f32 := scM0_4.view
/-- The scratch `arg19` the kernel carries between points, as a view: what it holds is stated through it. -/
abbrev VS0_5 : View sig .tc .vmem S1920x128 .f32 := scM0_5.view
/-- The scratch `arg20` the kernel carries between points, as a view: what it holds is stated through it. -/
abbrev VS0_6 : View sig .tc .vmem S1920x128 .f32 := scM0_6.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.Kernel.Hand

end
-- ==== Proof.PrintedRunA.lean ====
/- The whole body of the kernel as printed, over any floats, run once, at the first point of the grid: it ends, with the staged
   blocks as they were and the outputs and the scratch buffers at some contents. -/
module

public import proofs.«01_k».proof.Proof.PrintedSetting

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 0 in
/-- From the staged blocks at given contents and everything else at any contents, the body ends with the staged blocks unchanged. -/
theorem freeRun_A (c : Dev nD) (i : grid0.Coords) (arg1 : Memref sig .tc .vmem S1920x6144 .bf16) (harg1 : arg1.IsWhole) (arg2 : Memref sig .tc .vmem S256x3072 .i8) (harg2 : arg2.IsWhole) (arg3 : Memref sig .tc .vmem S96x256 .f32) (harg3 : arg3.IsWhole) (arg4 : Memref sig .tc .vmem S3x640 .i32) (harg4 : arg4.IsWhole) (arg5 : Memref sig .tc .vmem S3x640 .i32) (harg5 : arg5.IsWhole) (arg6 : Memref sig .tc .vmem S3x640 .i32) (harg6 : arg6.IsWhole) (arg7 : Memref sig .tc .smem S6 .f32) (harg7 : arg7.IsWhole) (arg8 : Memref sig .tc .smem S3 .i32) (harg8 : arg8.IsWhole) (arg9 : Memref sig .tc .smem S3 .i32) (harg9 : arg9.IsWhole) (arg10 : Memref sig .tc .smem S6 .f32) (harg10 : arg10.IsWhole) (arg11 : Memref sig .tc .smem S3 .f32) (harg11 : arg11.IsWhole) (arg12 : Memref sig .tc .smem S3 .f32) (harg12 : arg12.IsWhole) (arg13 : Memref sig .tc .vmem S3x640 .f32) (harg13 : arg13.IsWhole) (arg14 : Memref sig .tc .vmem S96x256 .i32) (harg14 : arg14.IsWhole) (arg15 : Memref sig .tc .vmem S6144x256 .bf16) (harg15 : arg15.IsWhole) (arg16 : Memref sig .tc .vmem S1920x256 .f32) (harg16 : arg16.IsWhole) (arg17 : Memref sig .tc .vmem S1920x128 .i32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .f32) (harg20 : arg20.IsWhole) (hc0 : cond0_0 i) (hc1 : ¬cond0_1 i)
    (x0 : Vec F S1920x6144 .bf16) (x1 : Vec F S256x3072 .i8) (x2 : Vec F S96x256 .f32) (x3 : Vec F S3x640 .i32) (x4 : Vec F S3x640 .i32) (x5 : Vec F S3x640 .i32) (x6 : Vec F S6 .f32) (x7 : Vec F S3 .i32) (x8 : Vec F S3 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_dpo_logps i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  intro E K
  simp only [cc0_dpo_logps_eq_skeleton]; unfold cc0_dpo_logps_skel
  simp only [k0_part105_eq_skeleton, k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part106_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  iexists _, _; isplitr; swap; · iexact HS6
  ipureintro; rfl

end Cert.Kernel.Hand

end
-- ==== Proof.PrintedRunB.lean ====
/- The whole body of the kernel as printed, over any floats, run once, at the points between the first and the last of the grid: it ends, with the staged
   blocks as they were and the outputs and the scratch buffers at some contents. -/
module

public import proofs.«01_k».proof.Proof.PrintedSetting

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 0 in
/-- From the staged blocks at given contents and everything else at any contents, the body ends with the staged blocks unchanged. -/
theorem freeRun_B (c : Dev nD) (i : grid0.Coords) (arg1 : Memref sig .tc .vmem S1920x6144 .bf16) (harg1 : arg1.IsWhole) (arg2 : Memref sig .tc .vmem S256x3072 .i8) (harg2 : arg2.IsWhole) (arg3 : Memref sig .tc .vmem S96x256 .f32) (harg3 : arg3.IsWhole) (arg4 : Memref sig .tc .vmem S3x640 .i32) (harg4 : arg4.IsWhole) (arg5 : Memref sig .tc .vmem S3x640 .i32) (harg5 : arg5.IsWhole) (arg6 : Memref sig .tc .vmem S3x640 .i32) (harg6 : arg6.IsWhole) (arg7 : Memref sig .tc .smem S6 .f32) (harg7 : arg7.IsWhole) (arg8 : Memref sig .tc .smem S3 .i32) (harg8 : arg8.IsWhole) (arg9 : Memref sig .tc .smem S3 .i32) (harg9 : arg9.IsWhole) (arg10 : Memref sig .tc .smem S6 .f32) (harg10 : arg10.IsWhole) (arg11 : Memref sig .tc .smem S3 .f32) (harg11 : arg11.IsWhole) (arg12 : Memref sig .tc .smem S3 .f32) (harg12 : arg12.IsWhole) (arg13 : Memref sig .tc .vmem S3x640 .f32) (harg13 : arg13.IsWhole) (arg14 : Memref sig .tc .vmem S96x256 .i32) (harg14 : arg14.IsWhole) (arg15 : Memref sig .tc .vmem S6144x256 .bf16) (harg15 : arg15.IsWhole) (arg16 : Memref sig .tc .vmem S1920x256 .f32) (harg16 : arg16.IsWhole) (arg17 : Memref sig .tc .vmem S1920x128 .i32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .f32) (harg20 : arg20.IsWhole) (hc0 : ¬cond0_0 i) (hc1 : ¬cond0_1 i)
    (x0 : Vec F S1920x6144 .bf16) (x1 : Vec F S256x3072 .i8) (x2 : Vec F S96x256 .f32) (x3 : Vec F S3x640 .i32) (x4 : Vec F S3x640 .i32) (x5 : Vec F S3x640 .i32) (x6 : Vec F S6 .f32) (x7 : Vec F S3 .i32) (x8 : Vec F S3 .i32) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_dpo_logps i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  intro E K
  simp only [cc0_dpo_logps_eq_skeleton]; unfold cc0_dpo_logps_skel
  simp only [k0_part105_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part106_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact hc0 | sl_exact hc1)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  iexists _, _; isplitr; swap; · iexact HS6
  ipureintro; rfl

end Cert.Kernel.Hand

end
-- ==== Proof.PrintedRunC.lean ====
/- The whole body of the kernel as printed, over any floats, run once, at the last point of the grid: it ends, with the staged
   blocks as they were and the outputs and the scratch buffers at some contents. -/
module

public import proofs.«01_k».proof.Proof.PrintedSetting

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

set_option maxHeartbeats 0 in
/-- From the staged blocks at given contents and everything else at any contents, the body ends with the staged blocks unchanged. -/
theorem freeRun_C (c : Dev nD) (i : grid0.Coords) (arg1 : Memref sig .tc .vmem S1920x6144 .bf16) (harg1 : arg1.IsWhole) (arg2 : Memref sig .tc .vmem S256x3072 .i8) (harg2 : arg2.IsWhole) (arg3 : Memref sig .tc .vmem S96x256 .f32) (harg3 : arg3.IsWhole) (arg4 : Memref sig .tc .vmem S3x640 .i32) (harg4 : arg4.IsWhole) (arg5 : Memref sig .tc .vmem S3x640 .i32) (harg5 : arg5.IsWhole) (arg6 : Memref sig .tc .vmem S3x640 .i32) (harg6 : arg6.IsWhole) (arg7 : Memref sig .tc .smem S6 .f32) (harg7 : arg7.IsWhole) (arg8 : Memref sig .tc .smem S3 .i32) (harg8 : arg8.IsWhole) (arg9 : Memref sig .tc .smem S3 .i32) (harg9 : arg9.IsWhole) (arg10 : Memref sig .tc .smem S6 .f32) (harg10 : arg10.IsWhole) (arg11 : Memref sig .tc .smem S3 .f32) (harg11 : arg11.IsWhole) (arg12 : Memref sig .tc .smem S3 .f32) (harg12 : arg12.IsWhole) (arg13 : Memref sig .tc .vmem S3x640 .f32) (harg13 : arg13.IsWhole) (arg14 : Memref sig .tc .vmem S96x256 .i32) (harg14 : arg14.IsWhole) (arg15 : Memref sig .tc .vmem S6144x256 .bf16) (harg15 : arg15.IsWhole) (arg16 : Memref sig .tc .vmem S1920x256 .f32) (harg16 : arg16.IsWhole) (arg17 : Memref sig .tc .vmem S1920x128 .i32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .f32) (harg20 : arg20.IsWhole) (hc0 : ¬cond0_0 i) (hc1 : cond0_1 i)
    (x0 : Vec F S1920x6144 .bf16) (x1 : Vec F S256x3072 .i8) (x2 : Vec F S96x256 .f32) (x3 : Vec F S3x640 .i32) (x4 : Vec F S3x640 .i32) (x5 : Vec F S3x640 .i32) (x6 : Vec F S6 .f32) (x7 : Vec F S3 .i32) (x8 : Vec F S3 .i32) (k0_hw1 : k0_chk1 i (arg8.view.readAt (Elt F) (Rect.unit (s := S3) ![0] S1.size inb_S3_S1_0).toLoadRect (harg8.unread x7) (Shape.Idx.first (numel1_S1.symm ▸ Nat.one_pos)))) (k0_hw2 : k0_chk2 i (arg9.view.readAt (Elt F) (Rect.unit (s := S3) ![0] S1.size inb_S3_S1_0).toLoadRect (harg9.unread x8) (Shape.Idx.first (numel1_S1.symm ▸ Nat.one_pos)))) (k0_hw3 : k0_chk3 i (arg8.view.readAt (Elt F) (Rect.unit (s := S3) ![1] S1.size inb_S3_S1_1).toLoadRect (harg8.unread x7) (Shape.Idx.first (numel1_S1.symm ▸ Nat.one_pos)))) (k0_hw4 : k0_chk4 i (arg9.view.readAt (Elt F) (Rect.unit (s := S3) ![1] S1.size inb_S3_S1_1).toLoadRect (harg9.unread x8) (Shape.Idx.first (numel1_S1.symm ▸ Nat.one_pos)))) (k0_hw5 : k0_chk5 i (arg8.view.readAt (Elt F) (Rect.unit (s := S3) ![2] S1.size inb_S3_S1_2).toLoadRect (harg8.unread x7) (Shape.Idx.first (numel1_S1.symm ▸ Nat.one_pos)))) (k0_hw6 : k0_chk6 i (arg9.view.readAt (Elt F) (Rect.unit (s := S3) ![2] S1.size inb_S3_S1_2).toLoadRect (harg9.unread x8) (Shape.Idx.first (numel1_S1.symm ▸ Nat.one_pos)))) :
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)) -∗ K ⟨⟩))
          ⊢ wp frame (wpE (defs₀ (F := F)) Variants.none c none) E (cc0_dpo_logps i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  intro E K
  simp only [cc0_dpo_logps_eq_skeleton]; unfold cc0_dpo_logps_skel
  simp only [k0_part105_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part106_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part35_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
  obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
  sl_exec (disch := first | sl_exact hc0 | sl_exact hc1 | sl_exact k0_hw1 | sl_exact k0_hw2 | sl_exact k0_hw3 | sl_exact k0_hw4 | sl_exact k0_hw5 | sl_exact k0_hw6)
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; · ipureintro; exact harg3.read_unread _
    iexact H2
  isplitl [H3]
  · iexists _; isplitr; · ipureintro; exact harg4.read_unread _
    iexact H3
  isplitl [H4]
  · iexists _; isplitr; · ipureintro; exact harg5.read_unread _
    iexact H4
  isplitl [H5]
  · iexists _; isplitr; · ipureintro; exact harg6.read_unread _
    iexact H5
  isplitl [H6]
  · iexists _; isplitr; · ipureintro; exact harg7.read_unread _
    iexact H6
  isplitl [H7]
  · iexists _; isplitr; · ipureintro; exact harg8.read_unread _
    iexact H7
  isplitl [H8]
  · iexists _; isplitr; · ipureintro; exact harg9.read_unread _
    iexact H8
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [HS3]
  · iexists _, _; isplitr; swap; · iexact HS3
    ipureintro; rfl
  isplitl [HS4]
  · iexists _, _; isplitr; swap; · iexact HS4
    ipureintro; rfl
  isplitl [HS5]
  · iexists _, _; isplitr; swap; · iexact HS5
    ipureintro; rfl
  iexists _, _; isplitr; swap; · iexact HS6
  ipureintro; rfl

end Cert.Kernel.Hand

end
-- ==== Proof.PrintedFrame.lean ====
/- The launch of the kernel as printed, over any floats: it ends, nothing faults, and the argument arrays end as they were. Nothing is said of
   what the outputs and the scratch buffers hold. -/
module

public import proofs.«01_k».proof.Proof.PrintedRunA
public import proofs.«01_k».proof.Proof.PrintedRunB
public import proofs.«01_k».proof.Proof.PrintedRunC
public import Idealize.ShloMosaic.Lib.Claim

@[expose] public section

-- membership in a rectangle of production extents (`View.cover_of_tiled`): the elaborator's structural look
-- recurses once per coordinate of the long axes
set_option maxRecDepth 16384

noncomputable section

namespace Cert.Kernel.Hand

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [BitOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (9, 10, 11, 12): nothing reads what the kernel leaves in them, so nothing
    of it is named (Lib/Pipeline/Dat.lean `Dat.toRForget`). -/
def forgets0 : Fin 13 → Bool := fun w => w.val == 9 || w.val == 10 || w.val == 11 || w.val == 12

/-- The proof data of the one pipeline on core `c`: the arrays as the region finds them (`V`); after the body at
    point `t` each input's buffer at its block and the outputs, FORGOTTEN, at `Dat.unnamed`; between points everything else at some contents (`ΦA`);
    nothing owed; full shares. -/
def dats (hH : Hyps m) (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ _ := Pipeline.ΦA spec0 c
  q _ := fullShare
  owed _ := 0

/-- The proof data's arrays are the region-entry contents: the proof data's definition projected (`dsimp`), so that
    `V` — a fold over @main's host prefix, long for some programs — is never unfolded to check it. -/
theorem A_eq (hH : Hyps m) (c : Dev nD) (w : Fin cfg0.W) : (dats m hH 0 c).A w = V m c (Pipeline.arrRef spec0 w) := by
  dsimp only [dats]

/-- What the body leaves, window by window (the proof data's `match` reduced by `dsimp`). -/
theorem after0_0 (hH : Hyps m) (c : Dev nD) (t : Fin cfg0.N) : (dats m hH 0 c).after 0 t = iblk m c 0 t := by dsimp only [dats]
theorem after0_1 (hH : Hyps m) (c : Dev nD) (t : Fin cfg0.N) : (dats m hH 0 c).after 1 t = iblk m c 1 t := by dsimp only [dats]
theorem after0_2 (hH : Hyps m) (c : Dev nD) (t : Fin cfg0.N) : (dats m hH 0 c).after 2 t = iblk m c 2 t := by dsimp only [dats]
theorem after0_3 (hH : Hyps m) (c : Dev nD) (t : Fin cfg0.N) : (dats m hH 0 c).after 3 t = iblk m c 3 t := by dsimp only [dats]
theorem after0_4 (hH : Hyps m) (c : Dev nD) (t : Fin cfg0.N) : (dats m hH 0 c).after 4 t = iblk m c 4 t := by dsimp only [dats]
theorem after0_5 (hH : Hyps m) (c : Dev nD) (t : Fin cfg0.N) : (dats m hH 0 c).after 5 t = iblk m c 5 t := by dsimp only [dats]
theorem after0_6 (hH : Hyps m) (c : Dev nD) (t : Fin cfg0.N) : (dats m hH 0 c).after 6 t = iblk m c 6 t := by dsimp only [dats]
theorem after0_7 (hH : Hyps m) (c : Dev nD) (t : Fin cfg0.N) : (dats m hH 0 c).after 7 t = iblk m c 7 t := by dsimp only [dats]
theorem after0_8 (hH : Hyps m) (c : Dev nD) (t : Fin cfg0.N) : (dats m hH 0 c).after 8 t = iblk m c 8 t := by dsimp only [dats]

/-- Each input's current staging buffer holds its block at every point, fetched there or not (`beforeK_W_of`). -/
theorem before0_0 (hH : Hyps m) (c : Dev nD) (t : Fin cfg0.N) (d) : (dats m hH 0 c).before 0 t d = iblk m c 0 t :=
  before0_0_of m (dats m hH 0 c) (A_eq m hH c 0) (after0_0 m hH c) t d
theorem before0_1 (hH : Hyps m) (c : Dev nD) (t : Fin cfg0.N) (d) : (dats m hH 0 c).before 1 t d = iblk m c 1 t :=
  before0_1_of m (dats m hH 0 c) (A_eq m hH c 1) (after0_1 m hH c) t d
theorem before0_2 (hH : Hyps m) (c : Dev nD) (t : Fin cfg0.N) (d) : (dats m hH 0 c).before 2 t d = iblk m c 2 t :=
  before0_2_of m (dats m hH 0 c) (A_eq m hH c 2) (after0_2 m hH c) t d
theorem before0_3 (hH : Hyps m) (c : Dev nD) (t : Fin cfg0.N) (d) : (dats m hH 0 c).before 3 t d = iblk m c 3 t :=
  before0_3_of m (dats m hH 0 c) (A_eq m hH c 3) (after0_3 m hH c) t d
theorem before0_4 (hH : Hyps m) (c : Dev nD) (t : Fin cfg0.N) (d) : (dats m hH 0 c).before 4 t d = iblk m c 4 t :=
  before0_4_of m (dats m hH 0 c) (A_eq m hH c 4) (after0_4 m hH c) t d
theorem before0_5 (hH : Hyps m) (c : Dev nD) (t : Fin cfg0.N) (d) : (dats m hH 0 c).before 5 t d = iblk m c 5 t :=
  before0_5_of m (dats m hH 0 c) (A_eq m hH c 5) (after0_5 m hH c) t d
theorem before0_6 (hH : Hyps m) (c : Dev nD) (t : Fin cfg0.N) (d) : (dats m hH 0 c).before 6 t d = iblk m c 6 t :=
  before0_6_of m (dats m hH 0 c) (A_eq m hH c 6) (after0_6 m hH c) t d
theorem before0_7 (hH : Hyps m) (c : Dev nD) (t : Fin cfg0.N) (d) : (dats m hH 0 c).before 7 t d = iblk m c 7 t :=
  before0_7_of m (dats m hH 0 c) (A_eq m hH c 7) (after0_7 m hH c) t d
theorem before0_8 (hH : Hyps m) (c : Dev nD) (t : Fin cfg0.N) (d) : (dats m hH 0 c).before 8 t d = iblk m c 8 t :=
  before0_8_of m (dats m hH 0 c) (A_eq m hH c 8) (after0_8 m hH c) t d

/-! ## The body obligation, at a generic point -/

/-- What the body is called with at point `t` (Lib/Pipeline.lean `BodyObligation`'s precondition, the windows one by one), -/
def bodyPre (hH : Hyps m) (c : Dev nD) (t : Fin cfg0.N) : sProp 𝕄 :=
  iprop((dats m hH 0 c).Φ t.castSucc ∗ (dats m hH 0 c).owesAt () t.castSucc
    ∗ (∃ d, owns (c : Thread nD τ) (ms0_0 t) fullShare ((dats m hH 0 c).before 0 t d))
    ∗ (∃ d, owns (c : Thread nD τ) (ms0_1 t) fullShare ((dats m hH 0 c).before 1 t d))
    ∗ (∃ d, owns (c : Thread nD τ) (ms0_2 t) fullShare ((dats m hH 0 c).before 2 t d))
    ∗ (∃ d, owns (c : Thread nD τ) (ms0_3 t) fullShare ((dats m hH 0 c).before 3 t d))
    ∗ (∃ d, owns (c : Thread nD τ) (ms0_4 t) fullShare ((dats m hH 0 c).before 4 t d))
    ∗ (∃ d, owns (c : Thread nD τ) (ms0_5 t) fullShare ((dats m hH 0 c).before 5 t d))
    ∗ (∃ d, owns (c : Thread nD τ) (ms0_6 t) fullShare ((dats m hH 0 c).before 6 t d))
    ∗ (∃ d, owns (c : Thread nD τ) (ms0_7 t) fullShare ((dats m hH 0 c).before 7 t d))
    ∗ (∃ d, owns (c : Thread nD τ) (ms0_8 t) fullShare ((dats m hH 0 c).before 8 t d))
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

/-- and what it returns. -/
def bodyPost (hH : Hyps m) (c : Dev nD) (t : Fin cfg0.N) : sProp 𝕄 :=
  iprop((dats m hH 0 c).Φ t.succ ∗ (dats m hH 0 c).owesAt () t.succ
    ∗ (dats m hH 0 c).leavesExact 0 t
    ∗ (dats m hH 0 c).leavesExact 1 t
    ∗ (dats m hH 0 c).leavesExact 2 t
    ∗ (dats m hH 0 c).leavesExact 3 t
    ∗ (dats m hH 0 c).leavesExact 4 t
    ∗ (dats m hH 0 c).leavesExact 5 t
    ∗ (dats m hH 0 c).leavesExact 6 t
    ∗ (dats m hH 0 c).leavesExact 7 t
    ∗ (dats m hH 0 c).leavesExact 8 t
    ∗ (∃ d, owns (c : Thread nD τ) (ms0_9 t) fullShare d)
    ∗ (∃ d, owns (c : Thread nD τ) (ms0_10 t) fullShare d)
    ∗ (∃ d, owns (c : Thread nD τ) (ms0_11 t) fullShare d)
    ∗ (∃ d, owns (c : Thread nD τ) (ms0_12 t) fullShare d))

/-- The body at any point, whichever of its three cases the point is in. -/
theorem run_any (hH : Hyps m) (c : Dev nD) (t : Fin cfg0.N) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ (∃ d, owns (c : Thread nD τ) (ms0_9 t) fullShare d) ∗ (∃ d, owns (c : Thread nD τ) (ms0_10 t) fullShare d) ∗ (∃ d, owns (c : Thread nD τ) (ms0_11 t) fullShare d) ∗ (∃ d, owns (c : Thread nD τ) (ms0_12 t) fullShare d) ∗ (∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)
      ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ (∃ d, owns (c : Thread nD τ) (ms0_9 t) fullShare d) ∗ (∃ d, owns (c : Thread nD τ) (ms0_10 t) fullShare d) ∗ (∃ d, owns (c : Thread nD τ) (ms0_11 t) fullShare d) ∗ (∃ d, owns (c : Thread nD τ) (ms0_12 t) fullShare d) ∗ (∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) -∗ K ⟨⟩))
    ⊢ wp frame (wpE (defs₀ (F := F)) Variants.none c none) Set.univ (bodyAt0 t) K := by
  unfold bodyAt0
  have hN : t.val < 125 := lt_of_lt_of_eq t.isLt (show cfg0.N = 125 from N_0)
  by_cases h0 : t.val % 125 = 0
  · by_cases h1 : t.val % 125 = 124
    · exfalso; omega
    · exact freeRun_A c (grid0.coords t) _ _ _ _ _ _ _ _ _ _ _ _ _ _ _ _ _ _ _ _ _ _ _ _ _ _ _ _ _ _ _ _ _ _ _ _ _ _ _ _ ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t) (iblk m c 8 t) Set.univ K
  · by_cases h1 : t.val % 125 = 124
    · exact freeRun_C c (grid0.coords t) _ _ _ _ _ _ _ _ _ _ _ _ _ _ _ _ _ _ _ _ _ _ _ _ _ _ _ _ _ _ _ _ _ _ _ _ _ _ _ _ (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) ((Hyps.c0 hH c t) ((hcond0_1 t).mpr h1)) ((Hyps.c1 hH c t) ((hcond0_1 t).mpr h1)) ((Hyps.c2 hH c t) ((hcond0_1 t).mpr h1)) ((Hyps.c3 hH c t) ((hcond0_1 t).mpr h1)) ((Hyps.c4 hH c t) ((hcond0_1 t).mpr h1)) ((Hyps.c5 hH c t) ((hcond0_1 t).mpr h1)) Set.univ K
    · exact freeRun_B c (grid0.coords t) _ _ _ _ _ _ _ _ _ _ _ _ _ _ _ _ _ _ _ _ _ _ _ _ _ _ _ _ _ _ _ _ _ _ _ _ _ _ _ _ (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) Set.univ K

set_option maxHeartbeats 24000000 in
/-- The body at any point, over what the pipeline hands it there: an input's buffer holds its block. -/
theorem sound_body (hH : Hyps m) (c : Dev nD) (t : Fin cfg0.N) :
    bodyPre m hH c t ⊢ wp frame (wpE (defs₀ (F := F)) Variants.none c none) Set.univ (bodyAt0 t) (fun _ => bodyPost m hH c t) := by
  unfold bodyPre bodyPost
  simp only [before0_0, before0_1, before0_2, before0_3, before0_4, before0_5, before0_6, before0_7, before0_8]
  rw [show (dats m hH 0 c).owesAt () t.succ = (dats m hH 0 c).owesAt () t.castSucc from rfl]
  rw [show (dats m hH 0 c).Φ t.succ = Pipeline.ΦA spec0 c from rfl, show (dats m hH 0 c).Φ t.castSucc = Pipeline.ΦA spec0 c from rfl, PhiA0_eq]
  rw [show (dats m hH 0 c).leavesExact 0 t = owns (c : Thread nD τ) (ms0_0 t) fullShare ((dats m hH 0 c).after 0 t) from by
    unfold Dat.leavesExact; rw [liveAt0_0 t], after0_0]
  rw [show (dats m hH 0 c).leavesExact 1 t = owns (c : Thread nD τ) (ms0_1 t) fullShare ((dats m hH 0 c).after 1 t) from by
    unfold Dat.leavesExact; rw [liveAt0_1 t], after0_1]
  rw [show (dats m hH 0 c).leavesExact 2 t = owns (c : Thread nD τ) (ms0_2 t) fullShare ((dats m hH 0 c).after 2 t) from by
    unfold Dat.leavesExact; rw [liveAt0_2 t], after0_2]
  rw [show (dats m hH 0 c).leavesExact 3 t = owns (c : Thread nD τ) (ms0_3 t) fullShare ((dats m hH 0 c).after 3 t) from by
    unfold Dat.leavesExact; rw [liveAt0_3 t], after0_3]
  rw [show (dats m hH 0 c).leavesExact 4 t = owns (c : Thread nD τ) (ms0_4 t) fullShare ((dats m hH 0 c).after 4 t) from by
    unfold Dat.leavesExact; rw [liveAt0_4 t], after0_4]
  rw [show (dats m hH 0 c).leavesExact 5 t = owns (c : Thread nD τ) (ms0_5 t) fullShare ((dats m hH 0 c).after 5 t) from by
    unfold Dat.leavesExact; rw [liveAt0_5 t], after0_5]
  rw [show (dats m hH 0 c).leavesExact 6 t = owns (c : Thread nD τ) (ms0_6 t) fullShare ((dats m hH 0 c).after 6 t) from by
    unfold Dat.leavesExact; rw [liveAt0_6 t], after0_6]
  rw [show (dats m hH 0 c).leavesExact 7 t = owns (c : Thread nD τ) (ms0_7 t) fullShare ((dats m hH 0 c).after 7 t) from by
    unfold Dat.leavesExact; rw [liveAt0_7 t], after0_7]
  rw [show (dats m hH 0 c).leavesExact 8 t = owns (c : Thread nD τ) (ms0_8 t) fullShare ((dats m hH 0 c).after 8 t) from by
    unfold Dat.leavesExact; rw [liveAt0_8 t], after0_8]
  iintro ⟨⟨⟨HS0, HS1, HS2, HS3, HS4, HS5, HS6⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (run_any m hH c t _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, HS0, HS1, HS2, HS3, HS4, HS5, HS6⟩
  isplitl [HS0 HS1 HS2 HS3 HS4 HS5 HS6 Hg]
  · isplitl [HS0 HS1 HS2 HS3 HS4 HS5 HS6]
    · isplitl [HS0]; · iexact HS0
      isplitl [HS1]; · iexact HS1
      isplitl [HS2]; · iexact HS2
      isplitl [HS3]; · iexact HS3
      isplitl [HS4]; · iexact HS4
      isplitl [HS5]; · iexact HS5
      iexact HS6
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (hH : Hyps m) (c : Dev nD) : BodyObligation (dats (F := F) m hH 0 c) (defs₀ (F := F)) Variants.none () Set.univ forgets0 := fun t => by
  rw [bigSep_W0, bigSep_W0, defs₀_row]
  exact triple_restated (sound_body m hH c t) rfl .rfl fun _ => .rfl

/-! ## The run and the frame -/

-- `θ_run_frame_track_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hH : Hyps m) : θ_run defs (onTc (τ := τ) (main (F := F))) (s₀ m ρ) (fun r => (Pipeline.RDat.FramePost (cfgs 0) (fun c => (dats m hH 0 c).toRForget forgets0) (V m)) r ∧ r.2.sem = fun _ => 0) :=
  Pipeline.θ_run_frame_track_forget (Q' := _) cfgs (dats m hH) (0 : Fin 1) launch0 defs₀ Variants.none forgets0 m ρ main
    (hbody := fun c => (body_obligation m hH c).loose) (hshare := fun c => (dats m hH 0 c).share_full fun _ => rfl)
    (howed := fun _ _ => rfl) (V := V m) (hmain := hmain m Variants.none) (hA := A_eq m hH) (hin := fun _ => .rfl) (hout := fun _ => .rfl)

/-- At the compiled mesh, for any values, from any memory with zero counters: every weakly fair execution of @main on the
    TensorCores terminates, and every final state has every INPUT array of the pipeline unchanged, nothing stated of the
    FORGOTTEN outputs (windows 9, 10, 11, 12) (Lib/Pipeline/Frame.lean `RDat.FramePost` over the proof data with those windows
    forgotten, Dat.lean `Dat.toRForget`), and every other unscoped buffer at its region-entry contents. -/
theorem run_main (hH : Hyps m) : θ_run defs (onTc (τ := τ) (main (F := F))) (s₀ m ρ) (Pipeline.RDat.FramePost (cfgs 0) (fun c => (dats m hH 0 c).toRForget forgets0) (V m)) :=
  (θ_run defs _ _).mono (fun _ h => h.1) (run_main_quiescent m ρ hH)

/-- The launch's post read at the argument arrays, whatever is said of the outputs. -/
theorem frame_of_forgotten (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePost (cfgs 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_arg0 (Pipeline.mem_restRefs_of main_arg0 (by decide) (by decide))).trans (V_main_arg0 m c),
      (Pipeline.RDat.FramePost.arr_in h c 1 rfl).trans ((hA c 1).trans (V_main_arg1 m c)),
      ((h c).2 main_arg2 (Pipeline.mem_restRefs_of main_arg2 (by decide) (by decide))).trans (V_main_arg2 m c),
      (Pipeline.RDat.FramePost.arr_in h c 3 rfl).trans ((hA c 3).trans (V_main_arg3 m c)),
      (Pipeline.RDat.FramePost.arr_in h c 4 rfl).trans ((hA c 4).trans (V_main_arg4 m c)),
      (Pipeline.RDat.FramePost.arr_in h c 5 rfl).trans ((hA c 5).trans (V_main_arg5 m c)),
      (Pipeline.RDat.FramePost.arr_in h c 6 rfl).trans ((hA c 6).trans (V_main_arg6 m c)),
      (Pipeline.RDat.FramePost.arr_in h c 7 rfl).trans ((hA c 7).trans (V_main_arg7 m c)),
      (Pipeline.RDat.FramePost.arr_in h c 8 rfl).trans ((hA c 8).trans (V_main_arg8 m c))⟩) h

/-- `frame` without the counters: the argument arrays end unchanged. -/
theorem unchanged (hH : Hyps m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of_forgotten m ρ (fun c => (dats m hH 0 c).toRForget forgets0) (A_eq m hH) (run_main m ρ hH)

/-- The frame, at any floats: the launch ends, nothing faults, the argument arrays end as they were and every semaphore counter is at zero, where the index words meet the conditions the body assumes of them. -/
theorem frame (hH : Hyps m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hH) ((θ_run defs _ _).mono (fun _ h => h.2) (run_main_quiescent m ρ hH))

end Cert.Kernel.Hand

end
-- ==== Proof.RunSetting.lean ====
/- What the runs of the kernel's body at one grid point are stated over: the two conditions of the body in closed form over
   the point's number, the staging buffers a point uses, the conditions the body assumes of the index words it loads, and
   the scratch buffers. The first condition holds at the first point, the second at the last. -/
module

public import proofs.«01_k».proof.Proof.Gen.KernelIdeal.Frame
public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- The condition of the body's `scf.if` 0 (`k0_h1`), from the grid coordinates (the skeleton's scalar
    chain substituted). -/
abbrev cond0_0 (i : grid0.Coords) : Prop := (Scalar.cmpi .ne (Scalar.extui (Scalar.cmpi .eq (BitVec.ofNat 32 (i 0).val) 0#32)) 0#32) = 1#1
/-- It holds at the first point only — by arithmetic of the point. -/
theorem hcond0_0 : ∀ t : Fin cfg0.N, cond0_0 (grid0.coords t) ↔ t.val % 125 = 0 :=
  (fun t => by
    have ht : t.val < 125 := Nat.lt_of_lt_of_eq t.isLt N_0
    have e0 : (grid0.coords t 0).val = t.val / 1 % 125 := Pipeline.Grid.coords_val t 0 (by decide) rfl
    simp only [cond0_0, e0]
    word_cmp
   : ∀ t : Fin grid0.N, cond0_0 (grid0.coords t) ↔ t.val % 125 = 0)

/-- The condition of the body's `scf.if` 1 (`k0_h2`), from the grid coordinates (the skeleton's scalar
    chain substituted). -/
abbrev cond0_1 (i : grid0.Coords) : Prop := k0_cond2 i = 1#1
/-- It holds at the last point only — by arithmetic of the point. -/
theorem hcond0_1 : ∀ t : Fin cfg0.N, cond0_1 (grid0.coords t) ↔ t.val % 125 = 124 :=
  (fun t => by
    have ht : t.val < 125 := Nat.lt_of_lt_of_eq t.isLt N_0
    have e0 : (grid0.coords t 0).val = t.val / 1 % 125 := Pipeline.Grid.coords_val t 0 (by decide) rfl
    simp only [cond0_1, k0_cond2, e0]
    word_cmp
   : ∀ t : Fin grid0.N, cond0_1 (grid0.coords t) ↔ t.val % 125 = 124)

/-! ## Where the windows are idle (the printed configuration's table `Cfg.idle`) -/

/-- Window 0 is never idle (an input). -/
theorem liveAt0_0 : ∀ t : Fin cfg0.N, cfg0.idle 0 (grid0.coords t) = false := fun _ => rfl
/-- Window 1 is never idle (an input). -/
theorem liveAt0_1 : ∀ t : Fin cfg0.N, cfg0.idle 1 (grid0.coords t) = false := fun _ => rfl
/-- Window 2 is never idle (an input). -/
theorem liveAt0_2 : ∀ t : Fin cfg0.N, cfg0.idle 2 (grid0.coords t) = false := fun _ => rfl
/-- Window 3 is never idle (an input). -/
theorem liveAt0_3 : ∀ t : Fin cfg0.N, cfg0.idle 3 (grid0.coords t) = false := fun _ => rfl
/-- Window 4 is never idle (an input). -/
theorem liveAt0_4 : ∀ t : Fin cfg0.N, cfg0.idle 4 (grid0.coords t) = false := fun _ => rfl
/-- Window 5 is never idle (an input). -/
theorem liveAt0_5 : ∀ t : Fin cfg0.N, cfg0.idle 5 (grid0.coords t) = false := fun _ => rfl
/-- Window 6 is never idle (an input). -/
theorem liveAt0_6 : ∀ t : Fin cfg0.N, cfg0.idle 6 (grid0.coords t) = false := fun _ => rfl
/-- Window 7 is never idle (an input). -/
theorem liveAt0_7 : ∀ t : Fin cfg0.N, cfg0.idle 7 (grid0.coords t) = false := fun _ => rfl
/-- Window 8 is never idle (an input). -/
theorem liveAt0_8 : ∀ t : Fin cfg0.N, cfg0.idle 8 (grid0.coords t) = false := fun _ => rfl
/-! ## The kernel body on any staging memrefs: a subtype the run finds -/

/-- Each window's current staging memref at point `t`, spelled as the pipeline passes it (`bodyAt0`), and its wholeness. -/
abbrev ms0_0 (t : Fin cfg0.N) : Memref sig .tc .vmem S1920x6144 .bf16 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x3072 .i8 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S96x256 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S3x640 .i32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S3x640 .i32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S3x640 .i32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .smem S6 .f32 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .smem S3 .i32 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .smem S3 .i32 := win0_8.stage (cfg0.slots t 8)
abbrev hs0_8 (t : Fin cfg0.N) : (ms0_8 t).IsWhole := hstage0_8 ((cfg0.slots t 8).cast nbuf0_8)
abbrev ms0_9 (t : Fin cfg0.N) : Memref sig .tc .smem S6 .f32 := win0_9.stage (cfg0.slots t 9)
abbrev hs0_9 (t : Fin cfg0.N) : (ms0_9 t).IsWhole := hstage0_9 ((cfg0.slots t 9).cast nbuf0_9)
abbrev ms0_10 (t : Fin cfg0.N) : Memref sig .tc .smem S3 .f32 := win0_10.stage (cfg0.slots t 10)
abbrev hs0_10 (t : Fin cfg0.N) : (ms0_10 t).IsWhole := hstage0_10 ((cfg0.slots t 10).cast nbuf0_10)
abbrev ms0_11 (t : Fin cfg0.N) : Memref sig .tc .smem S3 .f32 := win0_11.stage (cfg0.slots t 11)
abbrev hs0_11 (t : Fin cfg0.N) : (ms0_11 t).IsWhole := hstage0_11 ((cfg0.slots t 11).cast nbuf0_11)
abbrev ms0_12 (t : Fin cfg0.N) : Memref sig .tc .vmem S3x640 .f32 := win0_12.stage (cfg0.slots t 12)
abbrev hs0_12 (t : Fin cfg0.N) : (ms0_12 t).IsWhole := hstage0_12 ((cfg0.slots t 12).cast nbuf0_12)

/-! ## The side conditions the body assumes, as the frame's hypothesis -/

/-- The side conditions the body ASSUMES of words it loads from its input SMEM windows, or inside a counted
    loop of the loop's carried counter at every trip (the printed `TpuEff.assume
    (kK_chkN …)`: facts computed from the words that no program decides for every word), at EVERY point, over the
    words of the argument blocks there — spelled as each case's run reads them (`View.readAt` through the window's
    memref at its held contents), each under the conditions of the branches it sits inside. The frame holds
    under it; Proof.lean proves it from the certificate's
    precondition (`hyps_of_pre`; `View.readAt_apply` and `Memref.IsWhole.read_unread` rewrite a conjunct to the
    predicate at the block's word). -/
def Hyps (m : (ℓ : Loc nD τ sig) → Buf (Elt F) ℓ) : Prop :=
  ∀ (c : Dev nD) (t : Fin cfg0.N),
    (cond0_1 (grid0.coords t) → k0_chk1 (grid0.coords t) ((ms0_7 t).view.readAt (Elt F) (Rect.unit (s := S3) ![0] S1.size inb_S3_S1_0).toLoadRect ((hs0_7 t).unread (iblk m c 7 t)) (Shape.Idx.first (numel1_S1.symm ▸ Nat.one_pos))))
    ∧ (cond0_1 (grid0.coords t) → k0_chk2 (grid0.coords t) ((ms0_8 t).view.readAt (Elt F) (Rect.unit (s := S3) ![0] S1.size inb_S3_S1_0).toLoadRect ((hs0_8 t).unread (iblk m c 8 t)) (Shape.Idx.first (numel1_S1.symm ▸ Nat.one_pos))))
    ∧ (cond0_1 (grid0.coords t) → k0_chk3 (grid0.coords t) ((ms0_7 t).view.readAt (Elt F) (Rect.unit (s := S3) ![1] S1.size inb_S3_S1_1).toLoadRect ((hs0_7 t).unread (iblk m c 7 t)) (Shape.Idx.first (numel1_S1.symm ▸ Nat.one_pos))))
    ∧ (cond0_1 (grid0.coords t) → k0_chk4 (grid0.coords t) ((ms0_8 t).view.readAt (Elt F) (Rect.unit (s := S3) ![1] S1.size inb_S3_S1_1).toLoadRect ((hs0_8 t).unread (iblk m c 8 t)) (Shape.Idx.first (numel1_S1.symm ▸ Nat.one_pos))))
    ∧ (cond0_1 (grid0.coords t) → k0_chk5 (grid0.coords t) ((ms0_7 t).view.readAt (Elt F) (Rect.unit (s := S3) ![2] S1.size inb_S3_S1_2).toLoadRect ((hs0_7 t).unread (iblk m c 7 t)) (Shape.Idx.first (numel1_S1.symm ▸ Nat.one_pos))))
    ∧ (cond0_1 (grid0.coords t) → k0_chk6 (grid0.coords t) ((ms0_8 t).view.readAt (Elt F) (Rect.unit (s := S3) ![2] S1.size inb_S3_S1_2).toLoadRect ((hs0_8 t).unread (iblk m c 8 t)) (Shape.Idx.first (numel1_S1.symm ▸ Nat.one_pos))))

/-! Each conjunct of `Hyps` by name: its statement (`Hyps.pN`), a lemma citing it (`Hyps.cN`: what a run, or a
    statement over it, takes for that side condition), and `Hyps` built from one proof per conjunct (`Hyps.of`:
    what Proof.lean's `hyps_of_pre` applies). -/

/-- Conjunct 0 of `Hyps` at point `t`: the side condition `k0_chk1` the body assumes as `k0_hw1`, under the conditions of the branches it sits inside. -/
abbrev Hyps.p0 (m : (ℓ : Loc nD τ sig) → Buf (Elt F) ℓ) (c : Dev nD) (t : Fin cfg0.N) : Prop :=
  (cond0_1 (grid0.coords t) → k0_chk1 (grid0.coords t) ((ms0_7 t).view.readAt (Elt F) (Rect.unit (s := S3) ![0] S1.size inb_S3_S1_0).toLoadRect ((hs0_7 t).unread (iblk m c 7 t)) (Shape.Idx.first (numel1_S1.symm ▸ Nat.one_pos))))
variable {m} in
theorem Hyps.c0 (hH : Hyps m) (c : Dev nD) (t : Fin cfg0.N) :
    (cond0_1 (grid0.coords t) → k0_chk1 (grid0.coords t) ((ms0_7 t).view.readAt (Elt F) (Rect.unit (s := S3) ![0] S1.size inb_S3_S1_0).toLoadRect ((hs0_7 t).unread (iblk m c 7 t)) (Shape.Idx.first (numel1_S1.symm ▸ Nat.one_pos)))) := (hH c t).1
/-- Conjunct 1 of `Hyps` at point `t`: the side condition `k0_chk2` the body assumes as `k0_hw2`, under the conditions of the branches it sits inside. -/
abbrev Hyps.p1 (m : (ℓ : Loc nD τ sig) → Buf (Elt F) ℓ) (c : Dev nD) (t : Fin cfg0.N) : Prop :=
  (cond0_1 (grid0.coords t) → k0_chk2 (grid0.coords t) ((ms0_8 t).view.readAt (Elt F) (Rect.unit (s := S3) ![0] S1.size inb_S3_S1_0).toLoadRect ((hs0_8 t).unread (iblk m c 8 t)) (Shape.Idx.first (numel1_S1.symm ▸ Nat.one_pos))))
variable {m} in
theorem Hyps.c1 (hH : Hyps m) (c : Dev nD) (t : Fin cfg0.N) :
    (cond0_1 (grid0.coords t) → k0_chk2 (grid0.coords t) ((ms0_8 t).view.readAt (Elt F) (Rect.unit (s := S3) ![0] S1.size inb_S3_S1_0).toLoadRect ((hs0_8 t).unread (iblk m c 8 t)) (Shape.Idx.first (numel1_S1.symm ▸ Nat.one_pos)))) := (hH c t).2.1
/-- Conjunct 2 of `Hyps` at point `t`: the side condition `k0_chk3` the body assumes as `k0_hw3`, under the conditions of the branches it sits inside. -/
abbrev Hyps.p2 (m : (ℓ : Loc nD τ sig) → Buf (Elt F) ℓ) (c : Dev nD) (t : Fin cfg0.N) : Prop :=
  (cond0_1 (grid0.coords t) → k0_chk3 (grid0.coords t) ((ms0_7 t).view.readAt (Elt F) (Rect.unit (s := S3) ![1] S1.size inb_S3_S1_1).toLoadRect ((hs0_7 t).unread (iblk m c 7 t)) (Shape.Idx.first (numel1_S1.symm ▸ Nat.one_pos))))
variable {m} in
theorem Hyps.c2 (hH : Hyps m) (c : Dev nD) (t : Fin cfg0.N) :
    (cond0_1 (grid0.coords t) → k0_chk3 (grid0.coords t) ((ms0_7 t).view.readAt (Elt F) (Rect.unit (s := S3) ![1] S1.size inb_S3_S1_1).toLoadRect ((hs0_7 t).unread (iblk m c 7 t)) (Shape.Idx.first (numel1_S1.symm ▸ Nat.one_pos)))) := (hH c t).2.2.1
/-- Conjunct 3 of `Hyps` at point `t`: the side condition `k0_chk4` the body assumes as `k0_hw4`, under the conditions of the branches it sits inside. -/
abbrev Hyps.p3 (m : (ℓ : Loc nD τ sig) → Buf (Elt F) ℓ) (c : Dev nD) (t : Fin cfg0.N) : Prop :=
  (cond0_1 (grid0.coords t) → k0_chk4 (grid0.coords t) ((ms0_8 t).view.readAt (Elt F) (Rect.unit (s := S3) ![1] S1.size inb_S3_S1_1).toLoadRect ((hs0_8 t).unread (iblk m c 8 t)) (Shape.Idx.first (numel1_S1.symm ▸ Nat.one_pos))))
variable {m} in
theorem Hyps.c3 (hH : Hyps m) (c : Dev nD) (t : Fin cfg0.N) :
    (cond0_1 (grid0.coords t) → k0_chk4 (grid0.coords t) ((ms0_8 t).view.readAt (Elt F) (Rect.unit (s := S3) ![1] S1.size inb_S3_S1_1).toLoadRect ((hs0_8 t).unread (iblk m c 8 t)) (Shape.Idx.first (numel1_S1.symm ▸ Nat.one_pos)))) := (hH c t).2.2.2.1
/-- Conjunct 4 of `Hyps` at point `t`: the side condition `k0_chk5` the body assumes as `k0_hw5`, under the conditions of the branches it sits inside. -/
abbrev Hyps.p4 (m : (ℓ : Loc nD τ sig) → Buf (Elt F) ℓ) (c : Dev nD) (t : Fin cfg0.N) : Prop :=
  (cond0_1 (grid0.coords t) → k0_chk5 (grid0.coords t) ((ms0_7 t).view.readAt (Elt F) (Rect.unit (s := S3) ![2] S1.size inb_S3_S1_2).toLoadRect ((hs0_7 t).unread (iblk m c 7 t)) (Shape.Idx.first (numel1_S1.symm ▸ Nat.one_pos))))
variable {m} in
theorem Hyps.c4 (hH : Hyps m) (c : Dev nD) (t : Fin cfg0.N) :
    (cond0_1 (grid0.coords t) → k0_chk5 (grid0.coords t) ((ms0_7 t).view.readAt (Elt F) (Rect.unit (s := S3) ![2] S1.size inb_S3_S1_2).toLoadRect ((hs0_7 t).unread (iblk m c 7 t)) (Shape.Idx.first (numel1_S1.symm ▸ Nat.one_pos)))) := (hH c t).2.2.2.2.1
/-- Conjunct 5 of `Hyps` at point `t`: the side condition `k0_chk6` the body assumes as `k0_hw6`, under the conditions of the branches it sits inside. -/
abbrev Hyps.p5 (m : (ℓ : Loc nD τ sig) → Buf (Elt F) ℓ) (c : Dev nD) (t : Fin cfg0.N) : Prop :=
  (cond0_1 (grid0.coords t) → k0_chk6 (grid0.coords t) ((ms0_8 t).view.readAt (Elt F) (Rect.unit (s := S3) ![2] S1.size inb_S3_S1_2).toLoadRect ((hs0_8 t).unread (iblk m c 8 t)) (Shape.Idx.first (numel1_S1.symm ▸ Nat.one_pos))))
variable {m} in
theorem Hyps.c5 (hH : Hyps m) (c : Dev nD) (t : Fin cfg0.N) :
    (cond0_1 (grid0.coords t) → k0_chk6 (grid0.coords t) ((ms0_8 t).view.readAt (Elt F) (Rect.unit (s := S3) ![2] S1.size inb_S3_S1_2).toLoadRect ((hs0_8 t).unread (iblk m c 8 t)) (Shape.Idx.first (numel1_S1.symm ▸ Nat.one_pos)))) := (hH c t).2.2.2.2.2
variable {m} in
theorem Hyps.of
    (p0 : ∀ (c : Dev nD) (t : Fin cfg0.N), Hyps.p0 m c t)
    (p1 : ∀ (c : Dev nD) (t : Fin cfg0.N), Hyps.p1 m c t)
    (p2 : ∀ (c : Dev nD) (t : Fin cfg0.N), Hyps.p2 m c t)
    (p3 : ∀ (c : Dev nD) (t : Fin cfg0.N), Hyps.p3 m c t)
    (p4 : ∀ (c : Dev nD) (t : Fin cfg0.N), Hyps.p4 m c t)
    (p5 : ∀ (c : Dev nD) (t : Fin cfg0.N), Hyps.p5 m c t) :
    Hyps m := fun c t =>
  And.intro (p0 c t) (And.intro (p1 c t) (And.intro (p2 c t) (And.intro (p3 c t) (And.intro (p4 c t) (p5 c t)))))

/-- The scratch operands: whole scoped buffers of the kernel's own, passed beside the windows. -/
abbrev scM0_0 : Memref sig .tc .vmem S96x2x256 .bf16 := Memref.whole cc0_scratch0
abbrev scM0_1 : Memref sig .tc .vmem S6144x256 .bf16 := Memref.whole cc0_scratch1
abbrev scM0_2 : Memref sig .tc .vmem S1920x256 .f32 := Memref.whole cc0_scratch2
abbrev scM0_3 : Memref sig .tc .vmem S1920x128 .i32 := Memref.whole cc0_scratch3
abbrev scM0_4 : Memref sig .tc .vmem S1920x128 .f32 := Memref.whole cc0_scratch4
abbrev scM0_5 : Memref sig .tc .vmem S1920x128 .f32 := Memref.whole cc0_scratch5
abbrev scM0_6 : Memref sig .tc .vmem S1920x128 .f32 := Memref.whole cc0_scratch6
/-- The scratch `arg17` the kernel carries between points, as a view: what it holds is stated through it. -/
abbrev VS0_3 : View sig .tc .vmem S1920x128 .i32 := scM0_3.view
/-- The scratch `arg18` the kernel carries between points, as a view: what it holds is stated through it. -/
abbrev VS0_4 : View sig .tc .vmem S1920x128 .f32 := scM0_4.view
/-- The scratch `arg19` the kernel carries between points, as a view: what it holds is stated through it. -/
abbrev VS0_5 : View sig .tc .vmem S1920x128 .f32 := scM0_5.view
/-- The scratch `arg20` the kernel carries between points, as a view: what it holds is stated through it. -/
abbrev VS0_6 : View sig .tc .vmem S1920x128 .f32 := scM0_6.view

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d) ∗ (∃ d, owns (c : Thread nD τ) scM0_5 fullShare d) ∗ (∃ d, owns (c : Thread nD τ) scM0_6 fullShare d)) ∗ (∃ r, prngReg c r)) := by
  unfold Pipeline.ΦA; rw [scopedRest0_eq]; simp only [scM0_0, scM0_1, scM0_2, scM0_3, scM0_4, scM0_5, scM0_6, owns_whole]; try rfl

end Cert.KernelIdeal.Hand

end
-- ==== Proof.PairRange.lean ====
/- The two preconditions read the chosen and the rejected index of every pair as a number below six. The kernel's body
   assumes exactly that of each index word it loads before it uses one as an offset, so the precondition gives the side
   conditions (`Gen.Hyps`) under which a run is stated. -/
module

public import proofs.«01_k».proof.Defs
public import proofs.«01_k».proof.Proof.Gen.Pre_pairs_in_range
public import proofs.«01_k».proof.Proof.PrintedSetting
public import proofs.«01_k».proof.Proof.RunSetting
public import Idealize.ShloMosaic.Lib.ReduceAll

@[expose] public section

set_option maxRecDepth 16384

noncomputable section

open Idealize.ShloMosaic Idealize.ShloMosaic.TcCoe

namespace Cert.PairRange

theorem andi_eq_one (p q : BitVec 1) : IntOp.andi p q = 1#1 ↔ p = 1#1 ∧ q = 1#1 := by
  revert p q; decide

theorem ofBool_eq_one (p : Bool) : (BitVec.ofBool p = 1#1) ↔ p = true := by cases p <;> decide

/-- A word that compares as at least zero and less than six is a number below six. -/
theorem toNat_lt_six {w : BitVec 32} (h0 : IntOp.cmpi .sge w 0#32 = 1#1) (h1 : IntOp.cmpi .slt w 6#32 = 1#1) :
    w.toNat < 6 := by
  simp only [IntOp.cmpi, ofBool_eq_one, BitVec.sle, BitVec.slt, decide_eq_true_eq, BitVec.toInt,
    BitVec.toNat_ofNat] at h0 h1
  omega

instance : Subsingleton Cert.Pre_pairs_in_range.S_.Idx := ⟨fun a b => funext fun i => i.elim0⟩

attribute [local instance] Cert.Pre_pairs_in_range.Gen.facts

/-- What `pairs_in_range` says of the two index arrays. -/
theorem of_fn {F : FTy → Type} [FloatOps F] (x0 x1 x2 x3 x4 x5 x6 x7 x8)
    (h : Cert.Pre_pairs_in_range.fn (F := F) x0 x1 x2 x3 x4 x5 x6 x7 x8 = fun _ => 1#1) (y) :
    (x7 y).toNat < 6 ∧ (x8 y).toNat < 6 := by
  have e := congrFun h (Shape.Idx.first Cert.Pre_pairs_in_range.Facts.h_S_)
  simp only [Cert.Pre_pairs_in_range.fn] at e
  have e' := Host.reduce_andi_all _ _ _ _ _ e y
  simp only [andi, cmpi, broadcastInDim, constantI, andi_eq_one] at e'
  obtain ⟨⟨⟨a, b⟩, c⟩, d⟩ := e'
  exact ⟨toNat_lt_six a b, toNat_lt_six c d⟩

end Cert.PairRange

namespace Cert.Kernel.PairRange

open Cert.Kernel Cert.Kernel.Gen Cert.Kernel.Hand

/-- A word below six names one of the six cells, whichever of the six conditions asks. -/
theorem chk_of_lt (i : grid0.Coords) (w : BitVec 32) (h : w.toNat < 6) :
    k0_chk1 i w ∧ k0_chk2 i w ∧ k0_chk3 i w ∧ k0_chk4 i w ∧ k0_chk5 i w ∧ k0_chk6 i w := by
  have key : ∀ a : Fin 1, (![w.toNat] : Fin 1 → Nat) a + S1.size a ≤ S6.size a := by
    intro a; fin_cases a; simp; omega
  exact ⟨fun _ => key, fun _ => key, fun _ => key, fun _ => key, fun _ => key, fun _ => key⟩

/-- The index words in range give every side condition the body assumes. -/
theorem hyps_of_lt {F : FTy → Type} [FloatOps F] [BitOps F] (m : (ℓ : Loc nD τ sig) → Buf (Elt F) ℓ)
    (h7 : ∀ (c : Dev nD) y, (m ((c : Thread nD τ).loc main_arg7) y).toNat < 6)
    (h8 : ∀ (c : Dev nD) y, (m ((c : Thread nD τ).loc main_arg8) y).toNat < 6) : Hyps m := by
  have r7 : ∀ c t i, (iblk m c 7 t i).toNat < 6 := fun c t i => by
    unfold iblk; rw [View.read_apply, cast_eq]
    have e := congrFun (V_main_arg7 m c)
    exact (congrArg BitVec.toNat (e _)).trans_lt (h7 c _)
  have r8 : ∀ c t i, (iblk m c 8 t i).toNat < 6 := fun c t i => by
    unfold iblk; rw [View.read_apply, cast_eq]
    have e := congrFun (V_main_arg8 m c)
    exact (congrArg BitVec.toNat (e _)).trans_lt (h8 c _)
  refine Hyps.of ?_ ?_ ?_ ?_ ?_ ?_ <;> intro c t _ <;>
    simp only [View.readAt_apply, Memref.IsWhole.read_unread]
  · exact (chk_of_lt _ _ (r7 c t _)).1
  · exact (chk_of_lt _ _ (r8 c t _)).2.1
  · exact (chk_of_lt _ _ (r7 c t _)).2.2.1
  · exact (chk_of_lt _ _ (r8 c t _)).2.2.2.1
  · exact (chk_of_lt _ _ (r7 c t _)).2.2.2.2.1
  · exact (chk_of_lt _ _ (r8 c t _)).2.2.2.2.2

attribute [local instance] Cert.Pre_pairs_in_range.Gen.facts

theorem hyps_of_pre (m : (ℓ : Loc nD τ sig) → Buf (Elt Bits) ℓ) (h : Cert.Pre_Kernel m) : Hyps m :=
  hyps_of_lt m (fun c y => (Cert.PairRange.of_fn _ _ _ _ _ _ _ _ _ (h c) y).1)
    (fun c y => (Cert.PairRange.of_fn _ _ _ _ _ _ _ _ _ (h c) y).2)

end Cert.Kernel.PairRange

namespace Cert.KernelIdeal.PairRange

open Cert.KernelIdeal Cert.KernelIdeal.Gen Cert.KernelIdeal.Hand

/-- A word below six names one of the six cells, whichever of the six conditions asks. -/
theorem chk_of_lt (i : grid0.Coords) (w : BitVec 32) (h : w.toNat < 6) :
    k0_chk1 i w ∧ k0_chk2 i w ∧ k0_chk3 i w ∧ k0_chk4 i w ∧ k0_chk5 i w ∧ k0_chk6 i w := by
  have key : ∀ a : Fin 1, (![w.toNat] : Fin 1 → Nat) a + S1.size a ≤ S6.size a := by
    intro a; fin_cases a; simp; omega
  exact ⟨fun _ => key, fun _ => key, fun _ => key, fun _ => key, fun _ => key, fun _ => key⟩

/-- The index words in range give every side condition the body assumes. -/
theorem hyps_of_lt {F : FTy → Type} [FloatOps F] (m : (ℓ : Loc nD τ sig) → Buf (Elt F) ℓ)
    (h7 : ∀ (c : Dev nD) y, (m ((c : Thread nD τ).loc main_arg7) y).toNat < 6)
    (h8 : ∀ (c : Dev nD) y, (m ((c : Thread nD τ).loc main_arg8) y).toNat < 6) : Hyps m := by
  have r7 : ∀ c t i, (iblk m c 7 t i).toNat < 6 := fun c t i => by
    unfold iblk; rw [View.read_apply, cast_eq]
    have e := congrFun (V_main_arg7 m c)
    exact (congrArg BitVec.toNat (e _)).trans_lt (h7 c _)
  have r8 : ∀ c t i, (iblk m c 8 t i).toNat < 6 := fun c t i => by
    unfold iblk; rw [View.read_apply, cast_eq]
    have e := congrFun (V_main_arg8 m c)
    exact (congrArg BitVec.toNat (e _)).trans_lt (h8 c _)
  refine Hyps.of ?_ ?_ ?_ ?_ ?_ ?_ <;> intro c t _ <;>
    simp only [View.readAt_apply, Memref.IsWhole.read_unread]
  · exact (chk_of_lt _ _ (r7 c t _)).1
  · exact (chk_of_lt _ _ (r8 c t _)).2.1
  · exact (chk_of_lt _ _ (r7 c t _)).2.2.1
  · exact (chk_of_lt _ _ (r8 c t _)).2.2.2.1
  · exact (chk_of_lt _ _ (r7 c t _)).2.2.2.2.1
  · exact (chk_of_lt _ _ (r8 c t _)).2.2.2.2.2

attribute [local instance] Cert.Pre_pairs_in_range.Gen.facts

theorem hyps_of_pre (m : (ℓ : Loc nD τ sig) → Buf (Elt Ideal) ℓ) (h : Cert.Pre_KernelIdeal m) : Hyps m :=
  hyps_of_lt m (fun c y => (Cert.PairRange.of_fn _ _ _ _ _ _ _ _ _ (h c) y).1)
    (fun c y => (Cert.PairRange.of_fn _ _ _ _ _ _ _ _ _ (h c) y).2)

end Cert.KernelIdeal.PairRange
-- ==== Proof.Unpack.lean ====
/- The kernel's unpacked weights over the extended reals: each entry is its 4-bit code times its group's scale.

   A tile of 256 vocabulary rows is unpacked in 192 stores of 64×128 blocks. `words_first`, `words_second`, `tile0` and `tile1`
   read the words that four packed rows make, `scale0` and `scale1` the scales in the columns' order. -/
module

public import proofs.«01_k».proof.Proof.RunSetting
public import Idealize.ShloMosaic.Lib.Pointwise
public import Idealize.ShloMosaic.Lib.BitcastFour
public import Idealize.ShloMosaic.Lib.BitcastPair

@[expose] public section

set_option maxRecDepth 16384

noncomputable section

namespace Cert.KernelIdeal.Hand

open Idealize.ShloMosaic Cert.KernelIdeal Cert.KernelIdeal.Gen

theorem half_ix2 (x : S128x128.Idx → BitVec 32) (h) (k : Fin 256) (l : Fin 128) :
    bitcast S256x128 16 x h (ix2 k l) = (x (ix2 ⟨k / 2, by omega⟩ l)).extractLsb' (16 * (k % 2)) 16 := by
  rw [bitcast_32_16]
  have e : S256x128.row (ix2 k l) = (k : Nat) := rfl
  congr 2
  funext a; apply Fin.ext
  fin_cases a
  · exact (Shape.Bitcasts.srcIdx_row _ _ _ _ _ rfl)
  · exact (Shape.Bitcasts.srcIdx_other _ _ _ _ _ (by decide))
theorem pair0 (u : BitVec 32) : ∀ c < 2, (((u &&& 15#32) ||| ((u <<< 12) &&& 983040#32)) ^^^ 1124614920#32).extractLsb' (16 * c) 16
   = 0x4308#16 ^^^ ((u >>> (4*c)) &&& 15).setWidth 16 := by
  intro c hc
  apply BitVec.eq_of_getLsbD_eq
  intro i hi
  interval_cases c <;> interval_cases i <;> simp [BitVec.getLsbD_ofNat]
theorem pair1 (u : BitVec 32) : ∀ c < 2, (((u >>> 16 &&& 15#32) ||| ((u >>> 4) &&& 983040#32)) ^^^ 1124614920#32).extractLsb' (16 * c) 16
   = 0x4308#16 ^^^ ((u >>> (16 + 4*c)) &&& 15).setWidth 16 := by
  intro c hc
  apply BitVec.eq_of_getLsbD_eq
  intro i hi
  interval_cases c <;> interval_cases i <;> simp [BitVec.getLsbD_ofNat]
def nibv (n : Nat) : EReal := if n < 8 then ((n : ℝ) : EReal) else (((n : ℝ) - 16 : ℝ) : EReal)
theorem nib_val : ∀ n < 16, Ideal.ofBits .bf16 (0x4308#16 ^^^ BitVec.ofNat 16 n) - Ideal.ofBits .bf16 0x4308#16 = nibv n := by
  intro n hn
  interval_cases n <;> simp [nibv, Ideal.ofBits, Ideal.ieee, -EReal.coe_mul, ← EReal.coe_sub] <;> norm_num

/-- The two byte blocks' words side by side, transposed. -/
theorem words_T (v78 v80 : Vec Ideal S256x128 .i8) (p a : Fin 128) :
    k0_pay222 v78 v80 (ix2 p a)
      = bitcast S64x128 32 (if a.val < 64 then v78 else v80) bitcasts_S256x128_w8_S64x128_w32 (ix2 ⟨a % 64, by omega⟩ p) := by
  pointwise [k0_pay222]
  split
  · next h => congr 2; simp; omega
  · next h => congr 2; simp; omega

theorem lane_lt : ∀ l : Fin 128, IntOp.cmpi CmpIPredicate.slt (BitVec.ofNat 32 l.val) 64#32 = if l.val < 64 then 1#1 else 0#1 := by
  decide

theorem words_first (v78 v80 : Vec Ideal S256x128 .i8) (p l : Fin 128) :
    k0_pay225 v78 v80 (ix2 p l)
      = bitcast S64x128 32 v78 bitcasts_S256x128_w8_S64x128_w32 (ix2 ⟨l % 64, by omega⟩ p) >>> (8 * (l.val / 64)) := by
  pointwise [k0_pay225, k0_pay223, k0_pay224]
  rw [lane_lt, words_T, words_T]
  by_cases h : l.val < 64
  · have e : l.val / 64 = 0 := by omega
    simp [Scalar.select, h, e]
  · have e : l.val / 64 = 1 := by omega
    have e1 : (l.val + 128 - 64) % 128 < 64 := by omega
    have e2 : ((l.val + 128 - 64) % 128) % 64 = l.val % 64 := by omega
    simp only [Scalar.select, h, e, e1, e2, if_false, if_true]
    rfl

theorem words_second (v78 v80 : Vec Ideal S256x128 .i8) (p l : Fin 128) :
    k0_pay226 v78 v80 (ix2 p l)
      = bitcast S64x128 32 v80 bitcasts_S256x128_w8_S64x128_w32 (ix2 ⟨l % 64, by omega⟩ p) >>> (8 * (l.val / 64)) := by
  pointwise [k0_pay226, k0_pay223, k0_pay224]
  rw [lane_lt, words_T, words_T]
  by_cases h : l.val < 64
  · have e : l.val / 64 = 0 := by omega
    have e1 : ¬ (l.val + 128 - 64) % 128 < 64 := by omega
    have e2 : ((l.val + 128 - 64) % 128) % 64 = l.val % 64 := by omega
    simp only [Scalar.select, h, e, e1, e2, if_false, if_true]
    rfl
  · have e : l.val / 64 = 1 := by omega
    simp only [Scalar.select, h, e, if_false]
    rfl

/-- The vocabulary row, within the tile, that column `128 h + l` of the unpacked weights holds. -/
def vrow (h l : Nat) : Nat := 4 * (l % 64) + 2 * h + l / 64

theorem vrow_lt (h l : Nat) (hh : h < 2) (hl : l < 128) : vrow h l < 256 := by unfold vrow; omega

/-- Four bits of a word's byte, as a number. -/
theorem nibble (x : Vec Ideal S256x128 .i8) (p l : Fin 128) (h c : Nat) (hh : h < 2) (hc : c < 2) :
    ((bitcast S64x128 32 x bitcasts_S256x128_w8_S64x128_w32 (ix2 ⟨l % 64, by omega⟩ p) >>> (8 * (l.val / 64)) >>> (16 * h + 4 * c)) &&& 15#32).setWidth 16
      = BitVec.ofNat 16 ((x (ix2 ⟨vrow h l, vrow_lt h l hh l.isLt⟩ p)).toNat / 16 ^ c % 16) := by
  apply BitVec.eq_of_getLsbD_eq
  intro i hi
  have h15 : (15#32 : BitVec 32).getLsbD i = decide (i < 4) := by interval_cases i <;> rfl
  simp only [BitVec.getLsbD_setWidth, BitVec.getLsbD_and, BitVec.getLsbD_ushiftRight, h15, BitVec.getLsbD_ofNat, hi, decide_true, Bool.true_and]
  by_cases h4 : i < 4
  · have e := bitcast_8_32_getLsbD_ix2 x bitcasts_S256x128_w8_S64x128_w32 ⟨l % 64, by omega⟩ p (8 * (l.val / 64) + (16 * h + 4 * c + i)) (by omega)
      ⟨vrow h l, vrow_lt h l hh l.isLt⟩ (by simp only [vrow]; omega)
    have e3 : (8 * (l.val / 64) + (16 * h + 4 * c + i)) % 8 = 4 * c + i := by omega
    rw [e3] at e
    have e4 : (16 : Nat) = 2 ^ 4 := rfl
    rw [show (ix2 ⟨l % 64, by omega⟩ p : S64x128.Idx) = ValueIdx.ix2 ⟨l % 64, by omega⟩ p from rfl, e]
    rw [show (x (ix2 ⟨vrow h l, vrow_lt h l hh l.isLt⟩ p)).toNat / 16 ^ c % 16 = (x (ix2 ⟨vrow h l, vrow_lt h l hh l.isLt⟩ p)).toNat / 2 ^ (4 * c) % 2 ^ 4 by rw [Nat.pow_mul]; rfl]
    rw [Nat.testBit_mod_two_pow, Nat.testBit_div_two_pow]
    simp only [h4, BitVec.getLsbD, Nat.add_comm (4 * c) i, decide_true, Bool.true_and, Bool.and_true]; rfl
  · rw [show ∀ n, n / 16 ^ c % 16 = n / 16 ^ c % 2 ^ 4 from fun n => rfl, Nat.testBit_mod_two_pow]
    simp [h4]

/-- The unpacked codes of one block of 128 byte columns: entry (k, l) of half `h`. -/
def codes (x : Vec Ideal S256x128 .i8) (h : Nat) (hh : h < 2) (k : Fin 256) (l : Fin 128) : EReal :=
  nibv ((x (ix2 ⟨vrow h l, vrow_lt h l hh l.isLt⟩ ⟨k / 2, by omega⟩)).toNat / 16 ^ (k.val % 2) % 16)

/-- The half of the word that makes a code, at half 0 of the word: its four bits over the bf16 pattern of 128. -/
theorem tile0 (x : Vec Ideal S256x128 .i8) (w : IVec S128x128 32)
    (hw : ∀ p l, w (ix2 p l) = bitcast S64x128 32 x bitcasts_S256x128_w8_S64x128_w32 (ix2 ⟨l % 64, by omega⟩ p) >>> (8 * (l.val / 64)))
    (k : Fin 256) (l : Fin 128) : k0_pay230 (F := Ideal) w (ix2 k l) = codes x 0 (by decide) k l := by
  have hc : k.val % 2 < 2 := Nat.mod_lt _ (by decide)
  have n := nibble x ⟨k / 2, by omega⟩ l 0 (k % 2) (by decide) hc
  rw [← hw, Nat.mul_zero, Nat.zero_add] at n
  have e := (pair0 (w (ix2 ⟨k / 2, by omega⟩ l)) (k % 2) hc).trans (congrArg (0x4308#16 ^^^ ·) n)
  refine Eq.trans ?_ (nib_val _ (Nat.mod_lt _ (by decide)))
  pointwise [k0_pay230]
  rw [half_ix2]
  exact congrArg (fun b => Ideal.ofBits .bf16 b - Ideal.ofBits .bf16 17160#16) e

theorem tile1 (x : Vec Ideal S256x128 .i8) (w : IVec S128x128 32)
    (hw : ∀ p l, w (ix2 p l) = bitcast S64x128 32 x bitcasts_S256x128_w8_S64x128_w32 (ix2 ⟨l % 64, by omega⟩ p) >>> (8 * (l.val / 64)))
    (k : Fin 256) (l : Fin 128) : k0_pay231 (F := Ideal) w (ix2 k l) = codes x 1 (by decide) k l := by
  have hc : k.val % 2 < 2 := Nat.mod_lt _ (by decide)
  have n := nibble x ⟨k / 2, by omega⟩ l 1 (k % 2) (by decide) hc
  rw [← hw] at n
  have e := (pair1 (w (ix2 ⟨k / 2, by omega⟩ l)) (k % 2) hc).trans (congrArg (0x4308#16 ^^^ ·) n)
  refine Eq.trans ?_ (nib_val _ (Nat.mod_lt _ (by decide)))
  pointwise [k0_pay231]
  rw [half_ix2]
  exact congrArg (fun b => Ideal.ofBits .bf16 b - Ideal.ofBits .bf16 17160#16) e

theorem tile00 (v78 v80) (k : Fin 256) (l : Fin 128) : k0_pay227 (F := Ideal) v78 v80 (ix2 k l) = codes v78 0 (by decide) k l :=
  tile0 v78 (k0_pay225 v78 v80) (words_first v78 v80) k l
theorem tile01 (v78 v80) (k : Fin 256) (l : Fin 128) : k0_pay229 (F := Ideal) (k0_pay228 v78 v80) (ix2 k l) = codes v78 1 (by decide) k l :=
  tile1 v78 (k0_pay225 v78 v80) (words_first v78 v80) k l
theorem tile10 (v78 v80) (k : Fin 256) (l : Fin 128) : k0_pay230 (F := Ideal) (k0_pay226 (F := Ideal) v78 v80) (ix2 k l) = codes v80 0 (by decide) k l :=
  tile0 v80 (k0_pay226 v78 v80) (words_second v78 v80) k l
theorem tile11 (v78 v80) (k : Fin 256) (l : Fin 128) : k0_pay231 (F := Ideal) (k0_pay226 (F := Ideal) v78 v80) (ix2 k l) = codes v80 1 (by decide) k l :=
  tile1 v80 (k0_pay226 v78 v80) (words_second v78 v80) k l

/-- The word that names the scale's column, among one half's 128, for lane `l` and offset `c` (twice the half's number). -/
def pick (c : BitVec 32) (l : Nat) : BitVec 32 :=
  Scalar.select
    (IntOp.cmpi .slt (IntOp.andi (IntOp.addi (IntOp.addi (IntOp.muli (4#32) (IntOp.andi (BitVec.ofNat 32 l) 63#32)) c)
      (IntOp.shrsi ArithUnit.vector (BitVec.ofNat 32 l) 6#32)) 127#32) 0#32)
    (IntOp.addi (IntOp.andi (IntOp.addi (IntOp.addi (IntOp.muli (4#32) (IntOp.andi (BitVec.ofNat 32 l) 63#32)) c)
      (IntOp.shrsi ArithUnit.vector (BitVec.ofNat 32 l) 6#32)) 127#32) 128#32)
    (IntOp.andi (IntOp.addi (IntOp.addi (IntOp.muli (4#32) (IntOp.andi (BitVec.ofNat 32 l) 63#32)) c)
      (IntOp.shrsi ArithUnit.vector (BitVec.ofNat 32 l) 6#32)) 127#32)

theorem pick_val : ∀ (h : Fin 2) (l : Fin 128), (pick (BitVec.ofNat 32 (2 * h.val)) l).toNat % 128 = vrow h l % 128 := by decide +kernel

theorem left_half : ∀ (h : Fin 2) (l : Fin 128), IntOp.cmpi .slt (IntOp.andi (BitVec.ofNat 32 l.val) 63#32) 32#32
    = if vrow h l < 128 then 1#1 else 0#1 := by decide +kernel

theorem pick_eq {α : Type} (h : Fin 2) (l : Fin 128) (a : Fin 256 → α) (w : BitVec 32) (hw : w = pick (BitVec.ofNat 32 (2 * h.val)) l) (p q) :
    Scalar.select (IntOp.cmpi .slt (IntOp.andi (BitVec.ofNat 32 l.val) 63#32) 32#32) (a ⟨w.toNat % 128, p⟩) (a ⟨128 + w.toNat % 128, q⟩)
      = a ⟨vrow h l, vrow_lt h l h.isLt l.isLt⟩ := by
  have v := pick_val h l
  have b := vrow_lt h l h.isLt l.isLt
  subst hw
  rw [left_half h l]
  by_cases c : vrow h l < 128
  · simp only [c, if_true, Scalar.select]
    exact congrArg a (Fin.ext (by simp only; omega))
  · simp only [c, if_false, Scalar.select]
    exact congrArg a (Fin.ext (by simp only; omega))

/-- The scale of group `g` for column `l` of half 0. -/
theorem scale0 (x2 : Vec Ideal S96x256 .f32) (g : Fin 96) (l : Fin 128) :
    k0_pay215 x2 (ix2 g l) = x2 (ix2 g ⟨vrow 0 l, vrow_lt 0 l (by decide) l.isLt⟩) := by
  pointwise [k0_pay215, k0_pay214, k0_pay213, k0_pay212]
  exact pick_eq 0 l (fun a => x2 (ix2 g a)) _ rfl _ _

theorem scale1 (x2 : Vec Ideal S96x256 .f32) (g : Fin 96) (l : Fin 128) :
    k0_pay219 (F := Ideal) (k0_pay212 x2) (iota .tc S96x128 32 [1] iota_S96x128_d1_w32) k0_pay213 63#32 (ix2 g l)
      = x2 (ix2 g ⟨vrow 1 l, vrow_lt 1 l (by decide) l.isLt⟩) := by
  pointwise [k0_pay219, k0_pay217, k0_pay213, k0_pay212]
  exact pick_eq 1 l (fun a => x2 (ix2 g a)) _ rfl _ _

theorem slices_rows (j : Nat) : S256x128.Slices ![64 * (j % 4), 0] S64x128 := by
  refine ⟨rfl, ?_⟩
  intro a
  fin_cases a
  · simp; omega
  · simp

/-- A stored block: 64 rows of the codes, each times the scales' row. -/
def stored (j : Nat) (tile : FVec Ideal S256x128 .bf16) (raw : Vec Ideal S1x2x128 .bf16) : FVec Ideal S64x128 .bf16 :=
  have lo := shapeCast S1x128 (rowsOfParity 0 S1x1x128 raw bitcasts_S1x2x128_w16_S1x1x128_w32) shapeCasts_S1x1x128_S1x128
  have hi := shapeCast S1x128 (rowsOfParity 1 S1x1x128 raw bitcasts_S1x2x128_w16_S1x1x128_w32) shapeCasts_S1x1x128_S1x128
  have both := interleaveRows S2x128 lo hi bitcasts_S2x128_w16_S1x128_w32
  have row := shapeCast S1x128 (extractStridedSlice S1x128 ![0, 0] both slices_S2x128_o0_0_S1x128) shapeCasts_S1x128_S1x128
  shapeCast S64x128 (mulf (extractStridedSlice S64x128 ![64 * (j % 4), 0] tile (slices_rows j))
    (broadcastTo S64x128 row broadcasts_S1x128_S64x128)) shapeCasts_S64x128_S64x128

theorem stored_apply (j : Nat) (tile raw) (r : Fin 64) (l : Fin 128) :
    stored j tile raw (ix2 r l) = tile (ix2 ⟨64 * (j % 4) + r, by omega⟩ l) * raw (ix3 0 0 l) := by
  pointwise [stored]

theorem inb_bytes (i : Nat) : ∀ a, (![0, 128 * (i % 24)] : Fin 2 → Nat) a + S256x128.size a ≤ S256x3072.size a := by
  intro a; fin_cases a <;> simp; omega
theorem inb_scale (g t : Nat) : ∀ a, (![g % 96, 0, 128 * (t % 2)] : Fin 3 → Nat) a + S1x2x128.size a ≤ S96x2x256.size a := by
  intro a; fin_cases a <;> simp <;> omega
theorem inb_block (g t : Nat) : ∀ a, (![64 * (g % 96), 128 * (t % 2)] : Fin 2 → Nat) a + S64x128.size a ≤ S6144x256.size a := by
  intro a; fin_cases a <;> simp <;> omega

/-- The four ways one pair of byte blocks is unpacked. -/
def tileOf (v78 v80 : Vec Ideal S256x128 .i8) : Nat → FVec Ideal S256x128 .bf16
  | 0 => k0_pay227 v78 v80
  | 1 => k0_pay229 (k0_pay228 v78 v80)
  | 2 => k0_pay230 (k0_pay226 (F := Ideal) v78 v80)
  | _ => k0_pay231 (k0_pay226 (F := Ideal) v78 v80)

section
variable (B : Nat → Vec Ideal S256x128 .i8) (S : Nat → Nat → Vec Ideal S1x2x128 .bf16)

/-- The group whose block store `n` makes. -/
def grp (n : Nat) : Nat := n / 8 * 4 + n % 4

/-- Store `n` of the 192. -/
def blk (n : Nat) : View.Piece (Elt Ideal) S6144x256 .bf16 :=
  ⟨Rect.unit (s := S6144x256) ![64 * (grp n % 96), 128 * (n / 4 % 2)] S64x128.size (inb_block (grp n) (n / 4)),
    stored (n % 4) (tileOf (B (n / 16 * 2)) (B (n / 16 * 2 + 1)) (n / 4 % 4)) (S (grp n) (n / 4))⟩

/-- The stores up to the `n`-th, last first. -/
def blks : Nat → List (View.Piece (Elt Ideal) S6144x256 .bf16)
  | 0 => []
  | n + 1 => blk B S n :: blks n
end

/-- A 4-bit code of the tile's bytes times its group's scale: entry (k, column) of the unpacked weights. -/
def wt (x1 : Vec Ideal S256x3072 .i8) (x2 : Vec Ideal S96x256 .f32) (k : Fin 6144) (v : Fin 256) : EReal :=
  nibv ((x1 (ix2 v ⟨k / 2, by omega⟩)).toNat / 16 ^ (k.val % 2) % 16) * x2 (ix2 ⟨k / 64, by omega⟩ v)

/-- The vocabulary row, within the tile, that a column of the unpacked weights holds. -/
def vcol (y : Fin 256) : Fin 256 := ⟨vrow (y / 128) (y % 128), vrow_lt _ _ (by omega) (by omega)⟩

theorem tileOf_apply (x0 x1 : Vec Ideal S256x128 .i8) (k : Fin 256) (l : Fin 128) : ∀ q, q < 4 →
    tileOf x0 x1 q (ix2 k l) = codes (if q / 2 = 0 then x0 else x1) (q % 2) (Nat.mod_lt _ (by decide)) k l
  | 0, _ => tile00 x0 x1 k l
  | 1, _ => tile01 x0 x1 k l
  | 2, _ => tile10 x0 x1 k l
  | 3, _ => tile11 x0 x1 k l

theorem mem_blks (B S) : ∀ N p, p ∈ blks B S N ↔ ∃ n, n < N ∧ p = blk B S n
  | 0, p => by simp [blks]
  | N + 1, p => by
    rw [blks, List.mem_cons, mem_blks B S N p]
    constructor
    · rintro (h | ⟨n, hn, h⟩)
      · exact ⟨N, by omega, h⟩
      · exact ⟨n, by omega, h⟩
    · rintro ⟨n, hn, h⟩
      by_cases e : n = N
      · exact .inl (e ▸ h)
      · exact .inr ⟨n, by omega, h⟩

theorem block_apply (x1 : Vec Ideal S256x3072 .i8) (x2 : Vec Ideal S96x256 .f32)
    (B : Nat → Vec Ideal S256x128 .i8) (S : Nat → Nat → Vec Ideal S1x2x128 .bf16)
    (hB : ∀ i (v : Fin 256) (p : Fin 128), B i (ix2 v p) = x1 (ix2 v ⟨128 * (i % 24) + p, by omega⟩))
    (hS : ∀ g t, ∀ l : Fin 128, S g t (ix3 0 0 l) = x2 (ix2 ⟨g % 96, by omega⟩ ⟨vrow (t % 2) l, vrow_lt _ _ (by omega) l.isLt⟩))
    (n : Nat) (hn : n < 192) (r : Fin 64) (l : Fin 128) (k : Fin 6144) (y : Fin 256)
    (hk : k.val = 64 * (grp n % 96) + r) (hy : y.val = 128 * (n / 4 % 2) + l) :
    stored (n % 4) (tileOf (B (n / 16 * 2)) (B (n / 16 * 2 + 1)) (n / 4 % 4)) (S (grp n) (n / 4)) (ix2 r l)
      = wt x1 x2 k (vcol y) := by
  have hg : grp n < 96 := by unfold grp; omega
  have hv : vrow (n / 4 % 2) l = (vcol y).val := by simp only [vcol, vrow]; omega
  rw [stored_apply, tileOf_apply _ _ _ _ _ (Nat.mod_lt _ (by decide)), hS]
  unfold wt codes
  have hgk : (⟨grp n % 96, by omega⟩ : Fin 96) = ⟨k / 64, by omega⟩ := Fin.ext (by simp only; omega)
  have hvv : (⟨vrow (n / 4 % 2) l, vrow_lt _ _ (by omega) l.isLt⟩ : Fin 256) = vcol y := Fin.ext hv
  have hq : n / 4 % 4 % 2 = n / 4 % 2 := by omega
  have hpar : (64 * (n % 4 % 4) + r.val) % 2 = k.val % 2 := by omega
  have key : ∀ p hp, (if n / 4 % 4 / 2 = 0 then B (n / 16 * 2) else B (n / 16 * 2 + 1)) (ix2 (vcol y) ⟨p, hp⟩)
      = x1 (ix2 (vcol y) ⟨128 * (n / 8) + p, by omega⟩) := by
    intro p hp
    split
    · rw [hB]; congr 2; exact Fin.ext (by simp only; omega)
    · rw [hB]; congr 2; exact Fin.ext (by simp only; omega)
  simp only [hq, hvv, hgk, hpar]
  rw [key]
  congr 6
  refine congrArg (ix2 _) (Fin.ext ?_)
  simp only [grp] at hk ⊢
  omega

theorem blk_apply (x1 : Vec Ideal S256x3072 .i8) (x2 : Vec Ideal S96x256 .f32)
    (B : Nat → Vec Ideal S256x128 .i8) (S : Nat → Nat → Vec Ideal S1x2x128 .bf16)
    (hB : ∀ i (v : Fin 256) (p : Fin 128), B i (ix2 v p) = x1 (ix2 v ⟨128 * (i % 24) + p, by omega⟩))
    (hS : ∀ g t, ∀ l : Fin 128, S g t (ix3 0 0 l) = x2 (ix2 ⟨g % 96, by omega⟩ ⟨vrow (t % 2) l, vrow_lt _ _ (by omega) l.isLt⟩))
    (n : Nat) (hn : n < 192) (y : (blk B S n).1.shape.Idx) :
    (blk B S n).2 y = wt x1 x2 ((blk B S n).1.emb y 0) (vcol ((blk B S n).1.emb y 1)) :=
  (congrArg (blk B S n).2 (eq_ix2 (n0 := 64) (n1 := 128) y)).trans
    (block_apply x1 x2 B S hB hS n hn (y 0) (y 1) _ _
      (congrArg (64 * (grp n % 96) + ·) (Nat.one_mul _)) (congrArg (128 * (n / 4 % 2) + ·) (Nat.one_mul _)))

theorem canon_blks (x1 : Vec Ideal S256x3072 .i8) (x2 : Vec Ideal S96x256 .f32)
    (B : Nat → Vec Ideal S256x128 .i8) (S : Nat → Nat → Vec Ideal S1x2x128 .bf16)
    (hB : ∀ i (v : Fin 256) (p : Fin 128), B i (ix2 v p) = x1 (ix2 v ⟨128 * (i % 24) + p, by omega⟩))
    (hS : ∀ g t, ∀ l : Fin 128, S g t (ix3 0 0 l) = x2 (ix2 ⟨g % 96, by omega⟩ ⟨vrow (t % 2) l, vrow_lt _ _ (by omega) l.isLt⟩))
    (k : Fin 6144) (y : Fin 256) : View.canon (blks B S 192) (ix2 k y) = wt x1 x2 k (vcol y) := by
  refine View.canon_apply_of_pieces (Val := Elt Ideal) (S := S6144x256) (e := .bf16) (fun j => wt x1 x2 (j 0) (vcol (j 1))) (blks B S 192) ?_ (ix2 k y) ?_
  · intro p hp
    obtain ⟨n, hn, rfl⟩ := (mem_blks B S 192 p).1 hp
    exact blk_apply x1 x2 B S hB hS n hn
  · refine ⟨blk B S (k / 64 / 4 * 8 + y / 128 * 4 + k / 64 % 4), (mem_blks B S 192 _).2 ⟨_, by omega, rfl⟩, ?_⟩
    unfold blk
    rw [Rect.mem_set_unit]
    intro a
    fin_cases a
    · simp [grp]; omega
    · simp; omega

/-- The two stores that keep the scales, each row twice, for either half of the columns. -/
def scaleStores (v : Vec Ideal S96x256 .f32) : List (View.Piece (Elt Ideal) S96x2x256 .bf16) :=
  [⟨Rect.unit ![0, 0, 128] S96x2x128.size inb_S96x2x256_S96x2x128_0_0_128,
        k0_pay221 (F := Ideal) (k0_pay219 (k0_pay212 v) (iota .tc S96x128 32 [1] iota_S96x128_d1_w32) k0_pay213 63#32)
          (k0_pay220 (k0_pay212 v) (iota .tc S96x128 32 [1] iota_S96x128_d1_w32) k0_pay213 63#32)⟩,
       ⟨Rect.unit ![0, 0, 0] S96x2x128.size inb_S96x2x256_S96x2x128_0_0_0, k0_pay218 (F := Ideal) (k0_pay215 v) (k0_pay216 v)⟩]

/-- The scales stored twice over, for each half of the columns, read at an entry. -/
theorem canon_scales (v : Vec Ideal S96x256 .f32) (g : Fin 96) (c : Fin 2) (y : Fin 256) :
    View.canon (scaleStores v) (ix3 g c y)
      = v (ix2 g (vcol y)) := by
  refine View.canon_apply_of_pieces (Val := Elt Ideal) (S := S96x2x256) (e := .bf16) (fun j => v (ix2 (j 0) (vcol (j 2)))) _ ?_ _ ?_
  · refine List.forall_mem_cons.2 ⟨?_, List.forall_mem_cons.2 ⟨?_, fun _ h => nomatch h⟩⟩
    · intro j
      have e : k0_pay221 (F := Ideal) (k0_pay219 (k0_pay212 v) (iota .tc S96x128 32 [1] iota_S96x128_d1_w32) k0_pay213 63#32)
          (k0_pay220 (k0_pay212 v) (iota .tc S96x128 32 [1] iota_S96x128_d1_w32) k0_pay213 63#32) (ix3 (j 0) (j 1) (j 2))
          = k0_pay219 (F := Ideal) (k0_pay212 v) (iota .tc S96x128 32 [1] iota_S96x128_d1_w32) k0_pay213 63#32 (ix2 (j 0) (j 2)) := by
        pointwise [k0_pay221]
        split <;> rfl
      refine (congrArg _ (eq_ix3 (n0 := 96) (n1 := 2) (n2 := 128) j)).trans (e.trans ((scale1 v (j 0) (j 2)).trans ?_))
      refine congrArg v (congr (congrArg ix2 (Fin.ext ?_)) (Fin.ext ?_))
      · exact ((Nat.zero_add _).trans (Nat.one_mul _)).symm
      · have h2 : (j 2).val < 128 := (j 2).isLt
        show vrow 1 (j 2).val = vrow ((128 + 1 * (j 2).val) / 128) ((128 + 1 * (j 2).val) % 128)
        congr 1 <;> omega
    · intro j
      have e : k0_pay218 (F := Ideal) (k0_pay215 v) (k0_pay216 v) (ix3 (j 0) (j 1) (j 2))
          = k0_pay215 (F := Ideal) v (ix2 (j 0) (j 2)) := by
        pointwise [k0_pay218]
        split <;> rfl
      refine (congrArg _ (eq_ix3 (n0 := 96) (n1 := 2) (n2 := 128) j)).trans (e.trans ((scale0 v (j 0) (j 2)).trans ?_))
      refine congrArg v (congr (congrArg ix2 (Fin.ext ?_)) (Fin.ext ?_))
      · exact ((Nat.zero_add _).trans (Nat.one_mul _)).symm
      · have h2 : (j 2).val < 128 := (j 2).isLt
        show vrow 0 (j 2).val = vrow ((0 + 1 * (j 2).val) / 128) ((0 + 1 * (j 2).val) % 128)
        congr 1 <;> omega
  · by_cases h : y.val < 128
    · refine ⟨_, List.mem_cons_of_mem _ (List.mem_singleton.2 rfl), ?_⟩
      rw [Rect.mem_set_unit]
      intro a; fin_cases a <;> simp <;> omega
    · refine ⟨_, List.mem_cons_self, ?_⟩
      rw [Rect.mem_set_unit]
      intro a; fin_cases a <;> simp <;> omega

section
variable (arg2 : Memref sig .tc .vmem S256x3072 .i8) (harg2 : arg2.IsWhole)
    (arg14 : Memref sig .tc .vmem S96x2x256 .bf16) (x1 : Vec Ideal S256x3072 .i8) (x2 : Vec Ideal S96x256 .f32)

/-- A load of 128 byte columns. -/
def loaded (i : Nat) : Vec Ideal S256x128 .i8 :=
  View.readAt (Elt Ideal) arg2.view (Rect.unit (s := S256x3072) ![0, 128 * (i % 24)] S256x128.size (inb_bytes i)).toLoadRect (harg2.unread x1)

/-- A load of one group's scales, for one half of the columns. -/
def scaleRow (g t : Nat) : Vec Ideal S1x2x128 .bf16 :=
  arg14.view.readCov (scaleStores x2) (Rect.unit (s := S96x2x256) ![g % 96, 0, 128 * (t % 2)] S1x2x128.size (inb_scale g t)).toLoadRect

theorem loaded_apply (i : Nat) (v : Fin 256) (p : Fin 128) :
    loaded arg2 harg2 x1 i (ix2 v p) = x1 (ix2 v ⟨128 * (i % 24) + p, by omega⟩) := by
  unfold loaded
  rw [View.readAt_eq_ld, Memref.IsWhole.read_unread]
  refine congrArg x1 (funext fun a => Fin.ext ?_)
  fin_cases a
  · exact (Nat.zero_add _).trans (Nat.one_mul _)
  · exact congrArg (128 * (i % 24) + ·) (Nat.one_mul _)

theorem scaleRow_apply (g t : Nat) (l : Fin 128) :
    scaleRow arg14 x2 g t (ix3 0 0 l) = x2 (ix2 ⟨g % 96, by omega⟩ ⟨vrow (t % 2) l, vrow_lt _ _ (by omega) l.isLt⟩) := by
  unfold scaleRow
  rw [View.readCov_eq_canon']
  have ho : ((Rect.unit (s := S96x2x256) ![g % 96, 0, 128 * (t % 2)] S1x2x128.size (inb_scale g t)).toLoadRect.idx (ix3 0 0 l))
      = ix3 (⟨g % 96, by omega⟩ : Fin 96) (0 : Fin 2) (⟨128 * (t % 2) + l, by omega⟩ : Fin 256) := by
    funext a; refine Fin.ext ?_
    fin_cases a
    · exact (congrArg (g % 96 + ·) (Nat.one_mul _))
    · rfl
    · exact congrArg (128 * (t % 2) + ·) (Nat.one_mul _)
  show View.canon _ _ = _
  rw [ho]
  refine (canon_scales _ _ _ _).trans ?_
  refine congrArg x2 (congrArg (ix2 _) (Fin.ext ?_))
  simp only [vcol]
  congr 1 <;> omega

/-- What the 192 stores leave is the unpacked weights. -/
theorem canon_stores (k : Fin 6144) (y : Fin 256) :
    View.canon (blks (loaded arg2 harg2 x1) (scaleRow arg14 x2) 192) (ix2 k y) = wt x1 x2 k (vcol y) :=
  canon_blks x1 x2 _ _ (loaded_apply arg2 harg2 x1) (scaleRow_apply arg14 x2) k y
end

end Cert.KernelIdeal.Hand

end
-- ==== Proof.RunA.lean ====
/- The whole body of the kernel run once, at the first point of the grid: from the staged blocks and the scratch buffers at
   given contents to the pieces each buffer has had stored into it, which the run finds. The three run modules form a chain
   (each imports the one before), so that an auxiliary theorem of one part of the body is made once. -/
module

public import proofs.«01_k».proof.Proof.RunSetting

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 4308000 in
/-- What the body's stores leave in each output's staging memref, as pieces (last first) IN CASE A (`scf.if` 0 taken, `scf.if` 1 not taken: points 0), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9, 10, 11, 12) at anything, handed back at some contents nothing names. -/
noncomputable def kernelRun0_A (c : Dev nD) (i : grid0.Coords) (arg1 : Memref sig .tc .vmem S1920x6144 .bf16) (harg1 : arg1.IsWhole) (arg2 : Memref sig .tc .vmem S256x3072 .i8) (harg2 : arg2.IsWhole) (arg3 : Memref sig .tc .vmem S96x256 .f32) (harg3 : arg3.IsWhole) (arg4 : Memref sig .tc .vmem S3x640 .i32) (harg4 : arg4.IsWhole) (arg5 : Memref sig .tc .vmem S3x640 .i32) (harg5 : arg5.IsWhole) (arg6 : Memref sig .tc .vmem S3x640 .i32) (harg6 : arg6.IsWhole) (arg7 : Memref sig .tc .smem S6 .f32) (harg7 : arg7.IsWhole) (arg8 : Memref sig .tc .smem S3 .i32) (harg8 : arg8.IsWhole) (arg9 : Memref sig .tc .smem S3 .i32) (harg9 : arg9.IsWhole) (arg10 : Memref sig .tc .smem S6 .f32) (harg10 : arg10.IsWhole) (arg11 : Memref sig .tc .smem S3 .f32) (harg11 : arg11.IsWhole) (arg12 : Memref sig .tc .smem S3 .f32) (harg12 : arg12.IsWhole) (arg13 : Memref sig .tc .vmem S3x640 .f32) (harg13 : arg13.IsWhole) (arg14 : Memref sig .tc .vmem S96x2x256 .bf16) (harg14 : arg14.IsWhole) (arg15 : Memref sig .tc .vmem S6144x256 .bf16) (harg15 : arg15.IsWhole) (arg16 : Memref sig .tc .vmem S1920x256 .f32) (harg16 : arg16.IsWhole) (arg17 : Memref sig .tc .vmem S1920x128 .i32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .f32) (harg20 : arg20.IsWhole) (hc0 : cond0_0 i) (hc1 : ¬cond0_1 i)
    (x0 : Vec F S1920x6144 .bf16) (x1 : Vec F S256x3072 .i8) (x2 : Vec F S96x256 .f32) (x3 : Vec F S3x640 .i32) (x4 : Vec F S3x640 .i32) (x5 : Vec F S3x640 .i32) (x6 : Vec F S6 .f32) (x7 : Vec F S3 .i32) (x8 : Vec F S3 .i32) :
    Σ' (LS3 : List (View.Piece (Elt F) S1920x128 .i32)), Σ' (LS4 : List (View.Piece (Elt F) S1920x128 .f32)), Σ' (LS5 : List (View.Piece (Elt F) S1920x128 .f32)), { LS6 : List (View.Piece (Elt F) S1920x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ f, arg17.view.loc (c : Thread nD τ) ↦[arg17.view.set]{fullShare} arg17.view.writes (Elt F) f LS3) ∗ (∃ f, arg18.view.loc (c : Thread nD τ) ↦[arg18.view.set]{fullShare} arg18.view.writes (Elt F) f LS4) ∗ (∃ f, arg19.view.loc (c : Thread nD τ) ↦[arg19.view.set]{fullShare} arg19.view.writes (Elt F) f LS5) ∗ (∃ f, arg20.view.loc (c : Thread nD τ) ↦[arg20.view.set]{fullShare} arg20.view.writes (Elt F) f LS6)) -∗ K ⟨⟩))
          ⊢ wp frame (wpE (defs₀ (F := F)) Variants.none c none) E (cc0_dpo_logps i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, fun E K => ?run⟩
  case run =>
    simp only [cc0_dpo_logps_eq_skeleton]; unfold cc0_dpo_logps_skel
    simp only [k0_part112_eq_skeleton, k0_part36_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, ⟨%ds3, %fs3, -, HS3⟩, ⟨%ds4, %fs4, -, HS4⟩, ⟨%ds5, %fs5, -, HS5⟩, ⟨%ds6, %fs6, -, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]; · iexists _; iexact HS3
    isplitl [HS4]; · iexists _; iexact HS4
    isplitl [HS5]; · iexists _; iexact HS5
    iexists _; iexact HS6

end Cert.KernelIdeal.Hand

end
-- ==== Proof.RunB.lean ====
/- The whole body of the kernel run once, at the points between the first and the last of the grid: from the staged blocks and the scratch buffers at
   given contents to the pieces each buffer has had stored into it, which the run finds. The three run modules form a chain
   (each imports the one before), so that an auxiliary theorem of one part of the body is made once. -/
module

public import proofs.«01_k».proof.Proof.RunA

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 3952000 in
/-- What the body's stores leave in each output's staging memref, as pieces (last first) IN CASE B (`scf.if` 0 not taken, `scf.if` 1 not taken: points 1, 2, … 123: 123 of 125), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9, 10, 11, 12) at anything, handed back at some contents nothing names. -/
noncomputable def kernelRun0_B (c : Dev nD) (i : grid0.Coords) (arg1 : Memref sig .tc .vmem S1920x6144 .bf16) (harg1 : arg1.IsWhole) (arg2 : Memref sig .tc .vmem S256x3072 .i8) (harg2 : arg2.IsWhole) (arg3 : Memref sig .tc .vmem S96x256 .f32) (harg3 : arg3.IsWhole) (arg4 : Memref sig .tc .vmem S3x640 .i32) (harg4 : arg4.IsWhole) (arg5 : Memref sig .tc .vmem S3x640 .i32) (harg5 : arg5.IsWhole) (arg6 : Memref sig .tc .vmem S3x640 .i32) (harg6 : arg6.IsWhole) (arg7 : Memref sig .tc .smem S6 .f32) (harg7 : arg7.IsWhole) (arg8 : Memref sig .tc .smem S3 .i32) (harg8 : arg8.IsWhole) (arg9 : Memref sig .tc .smem S3 .i32) (harg9 : arg9.IsWhole) (arg10 : Memref sig .tc .smem S6 .f32) (harg10 : arg10.IsWhole) (arg11 : Memref sig .tc .smem S3 .f32) (harg11 : arg11.IsWhole) (arg12 : Memref sig .tc .smem S3 .f32) (harg12 : arg12.IsWhole) (arg13 : Memref sig .tc .vmem S3x640 .f32) (harg13 : arg13.IsWhole) (arg14 : Memref sig .tc .vmem S96x2x256 .bf16) (harg14 : arg14.IsWhole) (arg15 : Memref sig .tc .vmem S6144x256 .bf16) (harg15 : arg15.IsWhole) (arg16 : Memref sig .tc .vmem S1920x256 .f32) (harg16 : arg16.IsWhole) (arg17 : Memref sig .tc .vmem S1920x128 .i32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .f32) (harg20 : arg20.IsWhole) (hc0 : ¬cond0_0 i) (hc1 : ¬cond0_1 i)
    (x0 : Vec F S1920x6144 .bf16) (x1 : Vec F S256x3072 .i8) (x2 : Vec F S96x256 .f32) (x3 : Vec F S3x640 .i32) (x4 : Vec F S3x640 .i32) (x5 : Vec F S3x640 .i32) (x6 : Vec F S6 .f32) (x7 : Vec F S3 .i32) (x8 : Vec F S3 .i32) (xs3 : Vec F S1920x128 .i32) (xs4 : Vec F S1920x128 .f32) (xs5 : Vec F S1920x128 .f32) (xs6 : Vec F S1920x128 .f32) :
    Σ' (LS3 : List (View.Piece (Elt F) S1920x128 .i32)), Σ' (LS4 : List (View.Piece (Elt F) S1920x128 .f32)), Σ' (LS5 : List (View.Piece (Elt F) S1920x128 .f32)), { LS6 : List (View.Piece (Elt F) S1920x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs3 ∗ owns (c : Thread nD τ) arg18 fullShare xs4 ∗ owns (c : Thread nD τ) arg19 fullShare xs5 ∗ owns (c : Thread nD τ) arg20 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs3 ∗ (∃ f, arg18.view.loc (c : Thread nD τ) ↦[arg18.view.set]{fullShare} arg18.view.writes (Elt F) f LS4) ∗ (∃ f, arg19.view.loc (c : Thread nD τ) ↦[arg19.view.set]{fullShare} arg19.view.writes (Elt F) f LS5) ∗ (∃ f, arg20.view.loc (c : Thread nD τ) ↦[arg20.view.set]{fullShare} arg20.view.writes (Elt F) f LS6)) -∗ K ⟨⟩))
          ⊢ wp frame (wpE (defs₀ (F := F)) Variants.none c none) E (cc0_dpo_logps i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨[], ?_, ?_, ?_, fun E K => ?run⟩
  case run =>
    simp only [cc0_dpo_logps_eq_skeleton]; unfold cc0_dpo_logps_skel
    simp only [k0_part112_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, ⟨%fs3, %hfs3, HS3⟩, ⟨%fs4, %hfs4, HS4⟩, ⟨%fs5, %hfs5, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg17.eq_unread hfs3; obtain rfl := harg18.eq_unread hfs4; obtain rfl := harg19.eq_unread hfs5; obtain rfl := harg20.eq_unread hfs6
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [H12]
    · iexists _, _; isplitr; swap; · iexact H12
      ipureintro; rfl
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _; isplitr; · ipureintro; exact harg17.read_unread _
      iexact HS3
    isplitl [HS4]; · iexists _; iexact HS4
    isplitl [HS5]; · iexists _; iexact HS5
    iexists _; iexact HS6

end Cert.KernelIdeal.Hand

end
-- ==== Proof.RunC.lean ====
/- The whole body of the kernel run once, at the last point of the grid: from the staged blocks and the scratch buffers at
   given contents to the pieces each buffer has had stored into it, which the run finds. The three run modules form a chain
   (each imports the one before), so that an auxiliary theorem of one part of the body is made once. -/
module

public import proofs.«01_k».proof.Proof.RunB

@[expose] public section

-- membership in a rectangle of production extents (`View.cover_of_tiled`): the elaborator's structural look
-- recurses once per coordinate of the long axes
set_option maxRecDepth 16384

noncomputable section

namespace Cert.KernelIdeal.Hand

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 5028000 in
/-- What the body's stores leave in each output's staging memref, as pieces (last first) IN CASE C (`scf.if` 0 not taken, `scf.if` 1 taken: points 124), WITH the
    proof that on whole staging memrefs — the inputs' at their contents, the other outputs' at
    anything, a carried scratch at the contents the point before left (`xs·`) or at anything, the other scratch at anything, the body runs to the continuation holding the inputs' as they were,
    a carried scratch it stored into with its pieces written (`LS·`), the other scratch at some contents, each output's buffer with its pieces written: the printed functions are their skeletons
    (`Gen.*_eq_skeleton`), which `sl_exec` runs (Lib/Exec.lean) — each `scf.if` decided by the case's hypotheses `hc·`; the pieces are
    the witness that run finds (assigned when `iexact` hands the buffer to the continuation). Here also the FORGOTTEN outputs' (9, 10, 11, 12) at anything, handed back at some contents nothing names. -/
noncomputable def kernelRun0_C (c : Dev nD) (i : grid0.Coords) (arg1 : Memref sig .tc .vmem S1920x6144 .bf16) (harg1 : arg1.IsWhole) (arg2 : Memref sig .tc .vmem S256x3072 .i8) (harg2 : arg2.IsWhole) (arg3 : Memref sig .tc .vmem S96x256 .f32) (harg3 : arg3.IsWhole) (arg4 : Memref sig .tc .vmem S3x640 .i32) (harg4 : arg4.IsWhole) (arg5 : Memref sig .tc .vmem S3x640 .i32) (harg5 : arg5.IsWhole) (arg6 : Memref sig .tc .vmem S3x640 .i32) (harg6 : arg6.IsWhole) (arg7 : Memref sig .tc .smem S6 .f32) (harg7 : arg7.IsWhole) (arg8 : Memref sig .tc .smem S3 .i32) (harg8 : arg8.IsWhole) (arg9 : Memref sig .tc .smem S3 .i32) (harg9 : arg9.IsWhole) (arg10 : Memref sig .tc .smem S6 .f32) (harg10 : arg10.IsWhole) (arg11 : Memref sig .tc .smem S3 .f32) (harg11 : arg11.IsWhole) (arg12 : Memref sig .tc .smem S3 .f32) (harg12 : arg12.IsWhole) (arg13 : Memref sig .tc .vmem S3x640 .f32) (harg13 : arg13.IsWhole) (arg14 : Memref sig .tc .vmem S96x2x256 .bf16) (harg14 : arg14.IsWhole) (arg15 : Memref sig .tc .vmem S6144x256 .bf16) (harg15 : arg15.IsWhole) (arg16 : Memref sig .tc .vmem S1920x256 .f32) (harg16 : arg16.IsWhole) (arg17 : Memref sig .tc .vmem S1920x128 .i32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .f32) (harg20 : arg20.IsWhole) (hc0 : ¬cond0_0 i) (hc1 : cond0_1 i)
    (x0 : Vec F S1920x6144 .bf16) (x1 : Vec F S256x3072 .i8) (x2 : Vec F S96x256 .f32) (x3 : Vec F S3x640 .i32) (x4 : Vec F S3x640 .i32) (x5 : Vec F S3x640 .i32) (x6 : Vec F S6 .f32) (x7 : Vec F S3 .i32) (x8 : Vec F S3 .i32) (xo9 : Vec F S6 .f32) (xs3 : Vec F S1920x128 .i32) (xs4 : Vec F S1920x128 .f32) (xs5 : Vec F S1920x128 .f32) (xs6 : Vec F S1920x128 .f32) (k0_hw1 : k0_chk1 i (arg8.view.readAt (Elt F) (Rect.unit (s := S3) ![0] S1.size inb_S3_S1_0).toLoadRect (harg8.unread x7) (Shape.Idx.first (numel1_S1.symm ▸ Nat.one_pos)))) (k0_hw2 : k0_chk2 i (arg9.view.readAt (Elt F) (Rect.unit (s := S3) ![0] S1.size inb_S3_S1_0).toLoadRect (harg9.unread x8) (Shape.Idx.first (numel1_S1.symm ▸ Nat.one_pos)))) (k0_hw3 : k0_chk3 i (arg8.view.readAt (Elt F) (Rect.unit (s := S3) ![1] S1.size inb_S3_S1_1).toLoadRect (harg8.unread x7) (Shape.Idx.first (numel1_S1.symm ▸ Nat.one_pos)))) (k0_hw4 : k0_chk4 i (arg9.view.readAt (Elt F) (Rect.unit (s := S3) ![1] S1.size inb_S3_S1_1).toLoadRect (harg9.unread x8) (Shape.Idx.first (numel1_S1.symm ▸ Nat.one_pos)))) (k0_hw5 : k0_chk5 i (arg8.view.readAt (Elt F) (Rect.unit (s := S3) ![2] S1.size inb_S3_S1_2).toLoadRect (harg8.unread x7) (Shape.Idx.first (numel1_S1.symm ▸ Nat.one_pos)))) (k0_hw6 : k0_chk6 i (arg9.view.readAt (Elt F) (Rect.unit (s := S3) ![2] S1.size inb_S3_S1_2).toLoadRect (harg9.unread x8) (Shape.Idx.first (numel1_S1.symm ▸ Nat.one_pos)))) :
    Σ' (L9 : List (View.Piece (Elt F) S6 .f32)), Σ' (L10 : List (View.Piece (Elt F) S3 .f32)), Σ' (L11 : List (View.Piece (Elt F) S3 .f32)), Σ' (L12 : List (View.Piece (Elt F) S3x640 .f32)), Σ' (LS3 : List (View.Piece (Elt F) S1920x128 .i32)), Σ' (LS4 : List (View.Piece (Elt F) S1920x128 .f32)), Σ' (LS5 : List (View.Piece (Elt F) S1920x128 .f32)), { LS6 : List (View.Piece (Elt F) S1920x128 .f32) //
      ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xo9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs3 ∗ owns (c : Thread nD τ) arg18 fullShare xs4 ∗ owns (c : Thread nD τ) arg19 fullShare xs5 ∗ owns (c : Thread nD τ) arg20 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt F) f L9) ∗ (∃ f, arg11.view.loc (c : Thread nD τ) ↦[arg11.view.set]{fullShare} arg11.view.writes (Elt F) f L10) ∗ (∃ f, arg12.view.loc (c : Thread nD τ) ↦[arg12.view.set]{fullShare} arg12.view.writes (Elt F) f L11) ∗ (∃ f, arg13.view.loc (c : Thread nD τ) ↦[arg13.view.set]{fullShare} arg13.view.writes (Elt F) f L12) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs3 ∗ (∃ f, arg18.view.loc (c : Thread nD τ) ↦[arg18.view.set]{fullShare} arg18.view.writes (Elt F) f LS4) ∗ (∃ f, arg19.view.loc (c : Thread nD τ) ↦[arg19.view.set]{fullShare} arg19.view.writes (Elt F) f LS5) ∗ (∃ f, arg20.view.loc (c : Thread nD τ) ↦[arg20.view.set]{fullShare} arg20.view.writes (Elt F) f LS6)) -∗ K ⟨⟩))
          ⊢ wp frame (wpE (defs₀ (F := F)) Variants.none c none) E (cc0_dpo_logps i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K } := by
  refine ⟨?_, ?_, ?_, ?_, [], ?_, ?_, ?_, fun E K => ?run⟩
  case run =>
    simp only [cc0_dpo_logps_eq_skeleton]; unfold cc0_dpo_logps_skel
    simp only [k0_part112_eq_skeleton, k0_part36_eq_skeleton, k0_part37_eq_skeleton, k0_part38_eq_skeleton, k0_part39_eq_skeleton, k0_part40_eq_skeleton, k0_part41_eq_skeleton, k0_part42_eq_skeleton, k0_part43_eq_skeleton, k0_part44_eq_skeleton, k0_part45_eq_skeleton, k0_part46_eq_skeleton, k0_part47_eq_skeleton, k0_part48_eq_skeleton, k0_part49_eq_skeleton, k0_part50_eq_skeleton, k0_part51_eq_skeleton, k0_part52_eq_skeleton, k0_part53_eq_skeleton, k0_part54_eq_skeleton, k0_part55_eq_skeleton, k0_part56_eq_skeleton, k0_part57_eq_skeleton, k0_part58_eq_skeleton, k0_part59_eq_skeleton, k0_part60_eq_skeleton, k0_part61_eq_skeleton, k0_part62_eq_skeleton, k0_part63_eq_skeleton, k0_part64_eq_skeleton, k0_part65_eq_skeleton, k0_part66_eq_skeleton, k0_part67_eq_skeleton, k0_part68_eq_skeleton, k0_part69_eq_skeleton, k0_part70_eq_skeleton, k0_part71_eq_skeleton, k0_part72_eq_skeleton, k0_part73_eq_skeleton, k0_part74_eq_skeleton, k0_part75_eq_skeleton, k0_part76_eq_skeleton, k0_part77_eq_skeleton, k0_part78_eq_skeleton, k0_part79_eq_skeleton, k0_part80_eq_skeleton, k0_part81_eq_skeleton, k0_part82_eq_skeleton, k0_part83_eq_skeleton, k0_part84_eq_skeleton, k0_part85_eq_skeleton, k0_part86_eq_skeleton, k0_part87_eq_skeleton, k0_part88_eq_skeleton, k0_part89_eq_skeleton, k0_part90_eq_skeleton, k0_part91_eq_skeleton, k0_part92_eq_skeleton, k0_part93_eq_skeleton, k0_part94_eq_skeleton, k0_part95_eq_skeleton, k0_part96_eq_skeleton, k0_part97_eq_skeleton, k0_part98_eq_skeleton, k0_part99_eq_skeleton, k0_part100_eq_skeleton, k0_part101_eq_skeleton, k0_part102_eq_skeleton, k0_part103_eq_skeleton, k0_part104_eq_skeleton, k0_part105_eq_skeleton, k0_part106_eq_skeleton, k0_part107_eq_skeleton, k0_part108_eq_skeleton, k0_part109_eq_skeleton, k0_part110_eq_skeleton, k0_part111_eq_skeleton, k0_part35_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton, k0_part28_eq_skeleton, k0_part29_eq_skeleton, k0_part30_eq_skeleton, k0_part31_eq_skeleton, k0_part32_eq_skeleton, k0_part33_eq_skeleton, k0_part34_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, ⟨%ds0, %fs0, -, HS0⟩, ⟨%ds1, %fs1, -, HS1⟩, ⟨%ds2, %fs2, -, HS2⟩, ⟨%fs3, %hfs3, HS3⟩, ⟨%fs4, %hfs4, HS4⟩, ⟨%fs5, %hfs5, HS5⟩, ⟨%fs6, %hfs6, HS6⟩, Hk⟩
    obtain rfl := harg1.eq_unread hf0; obtain rfl := harg2.eq_unread hf1; obtain rfl := harg3.eq_unread hf2; obtain rfl := harg4.eq_unread hf3; obtain rfl := harg5.eq_unread hf4; obtain rfl := harg6.eq_unread hf5; obtain rfl := harg7.eq_unread hf6; obtain rfl := harg8.eq_unread hf7; obtain rfl := harg9.eq_unread hf8; obtain rfl := harg10.eq_unread hf9; obtain rfl := harg17.eq_unread hfs3; obtain rfl := harg18.eq_unread hfs4; obtain rfl := harg19.eq_unread hfs5; obtain rfl := harg20.eq_unread hfs6
    sl_exec (disch := first | sl_exact hc0 | sl_exact hc1 | sl_exact k0_hw1 | sl_exact k0_hw2 | sl_exact k0_hw3 | sl_exact k0_hw4 | sl_exact k0_hw5 | sl_exact k0_hw6)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; · ipureintro; exact harg4.read_unread _
      iexact H3
    isplitl [H4]
    · iexists _; isplitr; · ipureintro; exact harg5.read_unread _
      iexact H4
    isplitl [H5]
    · iexists _; isplitr; · ipureintro; exact harg6.read_unread _
      iexact H5
    isplitl [H6]
    · iexists _; isplitr; · ipureintro; exact harg7.read_unread _
      iexact H6
    isplitl [H7]
    · iexists _; isplitr; · ipureintro; exact harg8.read_unread _
      iexact H7
    isplitl [H8]
    · iexists _; isplitr; · ipureintro; exact harg9.read_unread _
      iexact H8
    isplitl [H9]; · iexists _; iexact H9
    isplitl [H10]; · iexists _; iexact H10
    isplitl [H11]; · iexists _; iexact H11
    isplitl [H12]; · iexists _; iexact H12
    isplitl [HS0]
    · iexists _, _; isplitr; swap; · iexact HS0
      ipureintro; rfl
    isplitl [HS1]
    · iexists _, _; isplitr; swap; · iexact HS1
      ipureintro; rfl
    isplitl [HS2]
    · iexists _, _; isplitr; swap; · iexact HS2
      ipureintro; rfl
    isplitl [HS3]
    · iexists _; isplitr; · ipureintro; exact harg17.read_unread _
      iexact HS3
    isplitl [HS4]; · iexists _; iexact HS4
    isplitl [HS5]; · iexists _; iexact HS5
    iexists _; iexact HS6

end Cert.KernelIdeal.Hand

end
-- ==== Proof.Weights.lean ====
/- The weights that each of the three cases of the body unpacks: `canon_stores` of each case's own list of stores. -/
module

public import proofs.«01_k».proof.Proof.Unpack
public import proofs.«01_k».proof.Proof.RunA
public import proofs.«01_k».proof.Proof.RunB
public import proofs.«01_k».proof.Proof.RunC

@[expose] public section

set_option maxRecDepth 65536

noncomputable section

namespace Cert.KernelIdeal.Hand

open Idealize.ShloMosaic Cert.KernelIdeal Cert.KernelIdeal.Gen

variable (c : Dev nD) (arg2 : Memref sig .tc .vmem S256x3072 .i8) (harg2 : arg2.IsWhole)
    (arg3 : Memref sig .tc .vmem S96x256 .f32) (harg3 : arg3.IsWhole) (arg14 : Memref sig .tc .vmem S96x2x256 .bf16)
    (x1 : Vec Ideal S256x3072 .i8) (x2 : Vec Ideal S96x256 .f32)

/-- The load of the whole block of scales is the block. -/
theorem scales_loaded :
    View.readAt (Elt Ideal) arg3.view (Rect.unit (s := S96x256) ![0, 0] S96x256.size inb_S96x256_S96x256_0_0).toLoadRect (harg3.unread x2) = x2 := by
  rw [View.readAt_eq_ld, Memref.IsWhole.read_unread]
  exact View.ld_unit_zero (by funext a; fin_cases a <;> rfl) _ _

theorem stores_A : kernelRun0_A.sl.HS1_192 c arg2 harg2 arg3 harg3 arg14 x1 x2
    = blks (loaded arg2 harg2 x1) (scaleRow arg14 (View.readAt (Elt Ideal) arg3.view (Rect.unit (s := S96x256) ![0, 0] S96x256.size inb_S96x256_S96x256_0_0).toLoadRect (harg3.unread x2))) 192 := rfl

theorem weights_A (k : Fin 6144) (y : Fin 256) :
    View.canon (kernelRun0_A.sl.HS1_192 c arg2 harg2 arg3 harg3 arg14 x1 x2) (ix2 k y) = wt x1 x2 k (vcol y) := by
  rw [stores_A, scales_loaded]
  exact canon_stores arg2 harg2 arg14 x1 x2 k y

theorem stores_B : kernelRun0_B.sl.HS1_192 c arg2 harg2 arg3 harg3 arg14 x1 x2
    = blks (loaded arg2 harg2 x1) (scaleRow arg14 (View.readAt (Elt Ideal) arg3.view (Rect.unit (s := S96x256) ![0, 0] S96x256.size inb_S96x256_S96x256_0_0).toLoadRect (harg3.unread x2))) 192 := rfl

theorem weights_B (k : Fin 6144) (y : Fin 256) :
    View.canon (kernelRun0_B.sl.HS1_192 c arg2 harg2 arg3 harg3 arg14 x1 x2) (ix2 k y) = wt x1 x2 k (vcol y) := by
  rw [stores_B, scales_loaded]
  exact canon_stores arg2 harg2 arg14 x1 x2 k y

theorem stores_C : kernelRun0_C.sl.HS1_192 c arg2 harg2 arg3 harg3 arg14 x1 x2
    = blks (loaded arg2 harg2 x1) (scaleRow arg14 (View.readAt (Elt Ideal) arg3.view (Rect.unit (s := S96x256) ![0, 0] S96x256.size inb_S96x256_S96x256_0_0).toLoadRect (harg3.unread x2))) 192 := rfl

theorem weights_C (k : Fin 6144) (y : Fin 256) :
    View.canon (kernelRun0_C.sl.HS1_192 c arg2 harg2 arg3 harg3 arg14 x1 x2) (ix2 k y) = wt x1 x2 k (vcol y) := by
  rw [stores_C, scales_loaded]
  exact canon_stores arg2 harg2 arg14 x1 x2 k y

end Cert.KernelIdeal.Hand

end
-- ==== Proof.Logits.lean ====
/- The tile of logits that each case of the body computes from its unpacked weights, and one trip of the loop over its row slabs. -/
module

public import proofs.«01_k».proof.Proof.Weights

@[expose] public section

set_option maxRecDepth 65536

noncomputable section

namespace Cert.KernelIdeal.Hand

open Idealize.ShloMosaic Cert.KernelIdeal Cert.KernelIdeal.Gen

/-- The logit of row `r` and vocabulary row `v` of the tile with codes `x1` and scales `x2`. -/
def logit (x0 : Vec Ideal S1920x6144 .bf16) (x1 : Vec Ideal S256x3072 .i8) (x2 : Vec Ideal S96x256 .f32) (r : Fin 1920) (v : Fin 256) : EReal :=
  ∑ k : Fin 6144, x0 (ix2 r k) * wt x1 x2 k v

theorem pay2_apply (a : Vec Ideal S1920x6144 .bf16) (w : Vec Ideal S6144x256 .bf16) (r : Fin 1920) (y : Fin 256) :
    k0_pay2 a w (ix2 r y) = ∑ k : Fin 6144, a (ix2 r k) * w (ix2 k y) := by
  pointwise [k0_pay2]

variable (c : Dev nD) (arg1 : Memref sig .tc .vmem S1920x6144 .bf16) (harg1 : arg1.IsWhole) (arg2 : Memref sig .tc .vmem S256x3072 .i8) (harg2 : arg2.IsWhole)
    (arg3 : Memref sig .tc .vmem S96x256 .f32) (harg3 : arg3.IsWhole) (arg14 : Memref sig .tc .vmem S96x2x256 .bf16) (arg15 : Memref sig .tc .vmem S6144x256 .bf16)
    (x0 : Vec Ideal S1920x6144 .bf16) (x1 : Vec Ideal S256x3072 .i8) (x2 : Vec Ideal S96x256 .f32)

theorem rows_loaded :
    View.readAt (Elt Ideal) arg1.view (Rect.unit (s := S1920x6144) ![0, 0] S1920x6144.size inb_S1920x6144_S1920x6144_0_0).toLoadRect (harg1.unread x0) = x0 := by
  rw [View.readAt_eq_ld, Memref.IsWhole.read_unread]
  exact View.ld_unit_zero (by funext a; fin_cases a <;> rfl) _ _

/-- The load of all the unpacked weights is what the stores left. -/
theorem tile_loaded (L : List (View.Piece (Elt Ideal) S6144x256 .bf16)) (k : Fin 6144) (y : Fin 256) :
    arg15.view.readCov L (Rect.unit (s := S6144x256) ![0, 0] S6144x256.size inb_S6144x256_S6144x256_0_0).toLoadRect (ix2 k y) = View.canon L (ix2 k y) := by
  rw [View.readCov_eq_canon']
  refine congrArg (View.canon L) (funext fun a => Fin.ext ?_)
  fin_cases a <;> simp [Rect.toLoadRect, Rect.unit]

theorem logits_A (r : Fin 1920) (y : Fin 256) :
    View.canon (kernelRun0_A.sl.HS2_1 c arg1 harg1 arg2 harg2 arg3 harg3 arg14 arg15 x0 x1 x2) (ix2 r y) = logit x0 x1 x2 r (vcol y) := by
  unfold kernelRun0_A.sl.HS2_1
  rw [View.canon_unit_zero (by funext a; fin_cases a <;> rfl), pay2_apply, rows_loaded]
  refine Finset.sum_congr rfl fun k _ => congrArg (x0 (ix2 r k) * ·) ?_
  rw [← weights_A c arg2 harg2 arg3 harg3 arg14 x1 x2 k y]
  unfold kernelRun0_A.sl.v2816
  exact tile_loaded arg15 _ k y

theorem logits_B (r : Fin 1920) (y : Fin 256) :
    View.canon (kernelRun0_B.sl.HS2_1 c arg1 harg1 arg2 harg2 arg3 harg3 arg14 arg15 x0 x1 x2) (ix2 r y) = logit x0 x1 x2 r (vcol y) := by
  unfold kernelRun0_B.sl.HS2_1
  rw [View.canon_unit_zero (by funext a; fin_cases a <;> rfl), pay2_apply, rows_loaded]
  refine Finset.sum_congr rfl fun k _ => congrArg (x0 (ix2 r k) * ·) ?_
  rw [← weights_B c arg2 harg2 arg3 harg3 arg14 x1 x2 k y]
  unfold kernelRun0_B.sl.v2816
  exact tile_loaded arg15 _ k y

theorem logits_C (r : Fin 1920) (y : Fin 256) :
    View.canon (kernelRun0_C.sl.HS2_1 c arg1 harg1 arg2 harg2 arg3 harg3 arg14 arg15 x0 x1 x2) (ix2 r y) = logit x0 x1 x2 r (vcol y) := by
  unfold kernelRun0_C.sl.HS2_1
  rw [View.canon_unit_zero (by funext a; fin_cases a <;> rfl), pay2_apply, rows_loaded]
  refine Finset.sum_congr rfl fun k _ => congrArg (x0 (ix2 r k) * ·) ?_
  rw [← weights_C c arg2 harg2 arg3 harg3 arg14 x1 x2 k y]
  unfold kernelRun0_C.sl.v2816
  exact tile_loaded arg15 _ k y

/-- One step of the running maximum: the lane's two new logits against the maximum so far. -/
def upM (a b m : EReal) : EReal := max m (max a b)

/-- One step of the running sum of exponentials, rescaled to the new maximum. -/
def upS (a b m s : EReal) : EReal :=
  s * Ideal.exp (m - upM a b m) + (Ideal.exp (a - upM a b m) + Ideal.exp (b - upM a b m))

/-- One step of the target's logit: taken where the label's position in the tile is the lane, or the lane of the second half. -/
def upT (v lab : BitVec 32) (l : Fin 128) (a b t : EReal) : EReal :=
  if lab - v * 256#32 = BitVec.ofNat 32 l then a else if lab - v * 256#32 = BitVec.ofNat 32 l + 128#32 then b else t

theorem pay43_apply (a b m : Vec Ideal S64x128 .f32) (r : Fin 64) (l : Fin 128) :
    k0_pay43 a b m (ix2 r l) = upM (a (ix2 r l)) (b (ix2 r l)) (m (ix2 r l)) := by
  pointwise [k0_pay43, k0_pay41]
  rfl

theorem pay42_apply (a b m s : Vec Ideal S64x128 .f32) (r : Fin 64) (l : Fin 128) :
    k0_pay42 a b m s (ix2 r l) = upS (a (ix2 r l)) (b (ix2 r l)) (m (ix2 r l)) (s (ix2 r l)) := by
  pointwise [k0_pay42, k0_pay41]
  rfl

theorem ofBool_beq {n : ℕ} (x y : BitVec n) : (BitVec.ofBool (x == y) = 1) = (x = y) := by
  by_cases h : x = y
  · simp [h]
  · rw [beq_false_of_ne h]
    simp [h]

theorem pay44_apply (v : BitVec 32) (a b : Vec Ideal S64x128 .f32) (lab : Vec Ideal S64x128 .i32) (t : Vec Ideal S64x128 .f32) (r : Fin 64) (l : Fin 128) :
    k0_pay3 (k0_pay44 v a b lab t) (ix2 r l) = upT v (lab (ix2 r l)) l (a (ix2 r l)) (b (ix2 r l)) (t (ix2 r l)) := by
  pointwise [k0_pay3, k0_pay44]
  simp only [Scalar.select, IntOp.cmpi, ofBool_beq]
  rfl

end Cert.KernelIdeal.Hand

end
-- ==== Proof.Slabs.lean ====
/- The loop over the row slabs: after `j` trips the first `64 * j` rows have been stepped once, the others are as they were. -/
module

public import proofs.«01_k».proof.Proof.Logits
public import Idealize.ShloMosaic.Lib.WritesUnit

@[expose] public section

set_option maxRecDepth 65536

noncomputable section

namespace Cert.KernelIdeal.Hand

open Idealize.ShloMosaic Cert.KernelIdeal Cert.KernelIdeal.Gen

theorem trips_lt (k : Fin k0_t1_loop.trips) : k.val < 30 := Nat.lt_of_lt_of_le k.isLt k0_t1_abs.2.1

theorem trips_eq : k0_t1_loop.trips = 30 := by decide +kernel

theorem off1_eq : ∀ k : Fin k0_t1_loop.trips, k0_off1 k = ![64 * k.val, 0] := by decide +kernel

theorem off2_eq : ∀ k : Fin k0_t1_loop.trips, k0_off2 k = ![64 * k.val, 128] := by decide +kernel

theorem off3_eq : ∀ k : Fin k0_t1_loop.trips, k0_off3 k = ![64 * k.val, 0] := by decide +kernel

/-- A load of rows `o … o + 63` and columns `q … q + 127`, read at one of its entries. -/
theorem slab_read {W : ℕ} {e : EltTy} {κ : Kind} {sp : Space} (a : View sig κ sp (⟨2, ![1920, W]⟩ : Shape) e) (X : BufTy.Contents (Elt Ideal) a.ty)
    (o q : ℕ) (off : Fin 2 → ℕ) (inb) (hoff : off = ![o, q]) (r : Fin 1920) (l : Fin 128) (y : Fin W) (hy : y.val = q + l.val)
    (h : o ≤ r.val) (h' : r.val - o < 64) :
    View.readAt (Elt Ideal) a (Rect.unit (s := ⟨2, ![1920, W]⟩) off S64x128.size inb).toLoadRect X (ix2 ⟨r.val - o, h'⟩ l) = a.read (Elt Ideal) X (ix2 r y) := by
  subst hoff
  rw [View.readAt_apply]
  refine congrArg _ (funext fun b => Fin.ext ?_)
  fin_cases b
  · have : (o : ℕ) + 1 * (r.val - o) = r.val := by omega
    exact this
  · have : (q : ℕ) + 1 * l.val = y.val := by omega
    exact this

variable (c : Dev nD) (i : grid0.Coords) (arg1 : Memref sig .tc .vmem S1920x6144 .bf16) (harg1 : arg1.IsWhole) (arg2 : Memref sig .tc .vmem S256x3072 .i8) (harg2 : arg2.IsWhole) (arg3 : Memref sig .tc .vmem S96x256 .f32) (harg3 : arg3.IsWhole) (arg4 : Memref sig .tc .vmem S3x640 .i32) (harg4 : arg4.IsWhole) (arg5 : Memref sig .tc .vmem S3x640 .i32) (harg5 : arg5.IsWhole) (arg6 : Memref sig .tc .vmem S3x640 .i32) (harg6 : arg6.IsWhole) (arg7 : Memref sig .tc .smem S6 .f32) (harg7 : arg7.IsWhole) (arg8 : Memref sig .tc .smem S3 .i32) (harg8 : arg8.IsWhole) (arg9 : Memref sig .tc .smem S3 .i32) (harg9 : arg9.IsWhole) (arg10 : Memref sig .tc .smem S6 .f32) (harg10 : arg10.IsWhole) (arg11 : Memref sig .tc .smem S3 .f32) (harg11 : arg11.IsWhole) (arg12 : Memref sig .tc .smem S3 .f32) (harg12 : arg12.IsWhole) (arg13 : Memref sig .tc .vmem S3x640 .f32) (harg13 : arg13.IsWhole) (arg14 : Memref sig .tc .vmem S96x2x256 .bf16) (harg14 : arg14.IsWhole) (arg15 : Memref sig .tc .vmem S6144x256 .bf16) (harg15 : arg15.IsWhole) (arg16 : Memref sig .tc .vmem S1920x256 .f32) (harg16 : arg16.IsWhole) (arg17 : Memref sig .tc .vmem S1920x128 .i32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .f32) (harg20 : arg20.IsWhole) (v : BitVec 32)
    (X16 : BufTy.Contents (Elt Ideal) arg16.view.ty) (X17 : BufTy.Contents (Elt Ideal) arg17.view.ty)
    (G18 : BufTy.Contents (Elt Ideal) arg18.view.ty) (G19 : BufTy.Contents (Elt Ideal) arg19.view.ty) (G20 : BufTy.Contents (Elt Ideal) arg20.view.ty)

theorem trip_eq (k : Fin k0_t1_loop.trips) : Gen.tripL_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v X16 X17 k G18 G19 G20
    = ([⟨Rect.unit (s := S1920x128) (k0_off3 k) S64x128.size (k0_off3_inb k), k0_pay43
          (View.readAt (Elt Ideal) arg16.view (Rect.unit (s := S1920x256) (k0_off1 k) S64x128.size (k0_off1_inb k)).toLoadRect X16)
          (View.readAt (Elt Ideal) arg16.view (Rect.unit (s := S1920x256) (k0_off2 k) S64x128.size (k0_off2_inb k)).toLoadRect X16)
          (View.readAt (Elt Ideal) arg18.view (Rect.unit (s := S1920x128) (k0_off3 k) S64x128.size (k0_off3_inb k)).toLoadRect G18)⟩],
       [⟨Rect.unit (s := S1920x128) (k0_off3 k) S64x128.size (k0_off3_inb k), k0_pay42
          (View.readAt (Elt Ideal) arg16.view (Rect.unit (s := S1920x256) (k0_off1 k) S64x128.size (k0_off1_inb k)).toLoadRect X16)
          (View.readAt (Elt Ideal) arg16.view (Rect.unit (s := S1920x256) (k0_off2 k) S64x128.size (k0_off2_inb k)).toLoadRect X16)
          (View.readAt (Elt Ideal) arg18.view (Rect.unit (s := S1920x128) (k0_off3 k) S64x128.size (k0_off3_inb k)).toLoadRect G18)
          (View.readAt (Elt Ideal) arg19.view (Rect.unit (s := S1920x128) (k0_off3 k) S64x128.size (k0_off3_inb k)).toLoadRect G19)⟩],
       [⟨Rect.unit (s := S1920x128) (k0_off3 k) S64x128.size (k0_off3_inb k), k0_pay3 (k0_pay44 v
          (View.readAt (Elt Ideal) arg16.view (Rect.unit (s := S1920x256) (k0_off1 k) S64x128.size (k0_off1_inb k)).toLoadRect X16)
          (View.readAt (Elt Ideal) arg16.view (Rect.unit (s := S1920x256) (k0_off2 k) S64x128.size (k0_off2_inb k)).toLoadRect X16)
          (View.readAt (Elt Ideal) arg17.view (Rect.unit (s := S1920x128) (k0_off3 k) S64x128.size (k0_off3_inb k)).toLoadRect X17)
          (View.readAt (Elt Ideal) arg20.view (Rect.unit (s := S1920x128) (k0_off3 k) S64x128.size (k0_off3_inb k)).toLoadRect G20))⟩]) := by
  unfold Gen.tripL_k0_t1 Gen.trip_k0_t1
  dsimp only
  sl_unfold_words
  rfl

/-- The lane in the first and in the second half of a row of logits. -/
def fstLane (l : Fin 128) : Fin 256 := ⟨l.val, by omega⟩
def sndLane (l : Fin 128) : Fin 256 := ⟨128 + l.val, by omega⟩

theorem rows_after (j : ℕ) (hj : j ≤ 30) (f18 : BufTy.Contents (Elt Ideal) arg18.view.ty) (f19 : BufTy.Contents (Elt Ideal) arg19.view.ty) (f20 : BufTy.Contents (Elt Ideal) arg20.view.ty) (r : Fin 1920) (l : Fin 128) :
    arg18.view.read (Elt Ideal) (arg18.view.writes (Elt Ideal) f18 (Gen.pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v X16 X17 G18 G19 G20 j).1) (ix2 r l)
      = (if r.val < 64 * j then upM (arg16.view.read (Elt Ideal) X16 (ix2 r (fstLane l))) (arg16.view.read (Elt Ideal) X16 (ix2 r (sndLane l)))
          (arg18.view.read (Elt Ideal) G18 (ix2 r l)) else arg18.view.read (Elt Ideal) f18 (ix2 r l))
    ∧ arg19.view.read (Elt Ideal) (arg19.view.writes (Elt Ideal) f19 (Gen.pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v X16 X17 G18 G19 G20 j).2.1) (ix2 r l)
      = (if r.val < 64 * j then upS (arg16.view.read (Elt Ideal) X16 (ix2 r (fstLane l))) (arg16.view.read (Elt Ideal) X16 (ix2 r (sndLane l)))
          (arg18.view.read (Elt Ideal) G18 (ix2 r l)) (arg19.view.read (Elt Ideal) G19 (ix2 r l)) else arg19.view.read (Elt Ideal) f19 (ix2 r l))
    ∧ arg20.view.read (Elt Ideal) (arg20.view.writes (Elt Ideal) f20 (Gen.pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v X16 X17 G18 G19 G20 j).2.2) (ix2 r l)
      = (if r.val < 64 * j then upT v (arg17.view.read (Elt Ideal) X17 (ix2 r l)) l (arg16.view.read (Elt Ideal) X16 (ix2 r (fstLane l))) (arg16.view.read (Elt Ideal) X16 (ix2 r (sndLane l)))
          (arg20.view.read (Elt Ideal) G20 (ix2 r l)) else arg20.view.read (Elt Ideal) f20 (ix2 r l)) := by
  induction j generalizing f18 f19 f20 with
  | zero =>
    rw [Gen.pb_k0_t1.eq_1]
    simp
  | succ j ih =>
    have ih := fun f18 f19 f20 => ih (by omega) f18 f19 f20
    have hk : j < k0_t1_loop.trips := by rw [trips_eq]; omega
    have e : j + 1 = (⟨j, hk⟩ : Fin k0_t1_loop.trips).val + 1 := rfl
    rw [e, Gen.pb_k0_t1_succ, trip_eq]
    dsimp only
    generalize Gen.pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 v X16 X17 G18 G19 G20 j = p at ih
    try simp only [List.cons_append, List.nil_append]
    have hr : r.val < 1920 := r.isLt
    by_cases h : 64 * j ≤ r.val ∧ r.val < 64 * j + 64
    · have h64 : r.val - 64 * j < 64 := by omega
      have hx : r.val = 64 * j + (r.val - 64 * j) := by omega
      have n : ¬ r.val < 64 * j := by omega
      have y : r.val < 64 * (j + 1) := by omega
      simp only [if_neg n] at ih
      simp only [if_pos y]
      refine ⟨?_, ?_, ?_⟩
      · refine (View.read_writes_cons_rows_of_mem _ _ _ _ _ (ix2 r l) (ix2 ⟨r.val - 64 * j, h64⟩ l) (off3_eq ⟨j, hk⟩) hx rfl).trans ?_
        rw [pay43_apply, slab_read _ _ _ _ _ _ (off1_eq ⟨j, hk⟩) r l (fstLane l) (by simp [fstLane]) h.1 h64,
          slab_read _ _ _ _ _ _ (off2_eq ⟨j, hk⟩) r l (sndLane l) (by simp [sndLane]) h.1 h64, slab_read _ _ _ _ _ _ (off3_eq ⟨j, hk⟩) r l l (by simp) h.1 h64, (ih G18 G19 G20).1]
      · refine (View.read_writes_cons_rows_of_mem _ _ _ _ _ (ix2 r l) (ix2 ⟨r.val - 64 * j, h64⟩ l) (off3_eq ⟨j, hk⟩) hx rfl).trans ?_
        rw [pay42_apply, slab_read _ _ _ _ _ _ (off1_eq ⟨j, hk⟩) r l (fstLane l) (by simp [fstLane]) h.1 h64,
          slab_read _ _ _ _ _ _ (off2_eq ⟨j, hk⟩) r l (sndLane l) (by simp [sndLane]) h.1 h64, slab_read _ _ _ _ _ _ (off3_eq ⟨j, hk⟩) r l l (by simp) h.1 h64, (ih G18 G19 G20).1,
          slab_read _ _ _ _ _ _ (off3_eq ⟨j, hk⟩) r l l (by simp) h.1 h64, (ih G18 G19 G20).2.1]
      · refine (View.read_writes_cons_rows_of_mem _ _ _ _ _ (ix2 r l) (ix2 ⟨r.val - 64 * j, h64⟩ l) (off3_eq ⟨j, hk⟩) hx rfl).trans ?_
        rw [pay44_apply, slab_read _ _ _ _ _ _ (off1_eq ⟨j, hk⟩) r l (fstLane l) (by simp [fstLane]) h.1 h64,
          slab_read _ _ _ _ _ _ (off2_eq ⟨j, hk⟩) r l (sndLane l) (by simp [sndLane]) h.1 h64, slab_read _ _ _ _ _ _ (off3_eq ⟨j, hk⟩) r l l (by simp) h.1 h64,
          slab_read _ _ _ _ _ _ (off3_eq ⟨j, hk⟩) r l l (by simp) h.1 h64, (ih G18 G19 G20).2.2]
    · have e : (r.val < 64 * (j + 1)) = (r.val < 64 * j) := propext ⟨fun _ => by omega, fun _ => by omega⟩
      have o : r.val < 64 * j ∨ 64 * j + 64 ≤ r.val := by omega
      simp only [e]
      rw [View.read_writes_cons_rows_of_not_mem (hoff := off3_eq ⟨j, hk⟩) (hW := rfl) (h := o), View.read_writes_cons_rows_of_not_mem (hoff := off3_eq ⟨j, hk⟩) (hW := rfl) (h := o),
        View.read_writes_cons_rows_of_not_mem (hoff := off3_eq ⟨j, hk⟩) (hW := rfl) (h := o)]
      exact ih f18 f19 f20

end Cert.KernelIdeal.Hand

end
-- ==== Proof.State.lean ====
/- What one grid point leaves in the scratch it carries: every row and lane's label, running maximum, running sum and target logit. -/
module

public import proofs.«01_k».proof.Proof.Slabs

@[expose] public section

set_option maxRecDepth 65536

noncomputable section

namespace Cert.KernelIdeal.Hand

open Idealize.ShloMosaic Cert.KernelIdeal Cert.KernelIdeal.Gen

/-! ## The labels' columns -/

/-- The column of its own tile's order at which a label's vocabulary row stands, with the tile's bits kept. -/
def permLab (b : BitVec 32) : BitVec 32 :=
  IntOp.ori (IntOp.ori (IntOp.ori (IntOp.andi b 4294967040#32) (IntOp.shli .vector (IntOp.shrsi .vector (IntOp.andi b 3#32) 1#32) 7#32))
    (IntOp.shli .vector (IntOp.andi (IntOp.andi b 3#32) 1#32) 6#32)) (IntOp.andi (IntOp.shrsi .vector b 2#32) 63#32)

theorem pay38_apply (b : Vec Ideal S1x128 .i32) (r l : Fin 128) : k0_pay38 b (ix2 r l) = permLab (b (ix2 0 r)) := by
  pointwise [k0_pay38]
  rfl

theorem inb_lab (n : ℕ) : ∀ a, (![128 * (n % 15), 0] : Fin 2 → ℕ) a + S128x128.size a ≤ S1920x128.size a := by
  intro a
  have := Nat.mod_lt n (show 15 > 0 by norm_num)
  fin_cases a
  · show 128 * (n % 15) + 128 ≤ 1920; omega
  · show 0 + 128 ≤ 128; omega

theorem inb_tok (n : ℕ) : ∀ a, (![n % 15 / 5, 128 * (n % 15 % 5)] : Fin 2 → ℕ) a + S1x128.size a ≤ S3x640.size a := by
  intro a
  have := Nat.mod_lt n (show 15 > 0 by norm_num)
  fin_cases a
  · show n % 15 / 5 + 1 ≤ 3; omega
  · show 128 * (n % 15 % 5) + 128 ≤ 640; omega

/-- The stores of the first `n` blocks of 128 tokens' labels. -/
def labs (arg4 : Memref sig .tc .vmem S3x640 .i32) (X : BufTy.Contents (Elt Ideal) arg4.view.ty) : ℕ → List (View.Piece (Elt Ideal) S1920x128 .i32)
  | 0 => []
  | n + 1 => ⟨Rect.unit (s := S1920x128) ![128 * (n % 15), 0] S128x128.size (inb_lab n), k0_pay38 (View.readAt (Elt Ideal) arg4.view
      (Rect.unit (s := S3x640) ![n % 15 / 5, 128 * (n % 15 % 5)] S1x128.size (inb_tok n)).toLoadRect X)⟩ :: labs arg4 X n

theorem labs_eq (c : Dev nD) (arg4 : Memref sig .tc .vmem S3x640 .i32) (harg4 : arg4.IsWhole) (x3 : Vec Ideal S3x640 .i32) :
    kernelRun0_A.sl.HS3_15 (F := Ideal) c arg4 harg4 x3 = labs arg4 (harg4.unread x3) 15 := rfl

/-- The token a row of the flattened batch is. -/
def tokRow (r : Fin 1920) : Fin 3 := ⟨r.val / 640, by omega⟩
def tokCol (r : Fin 1920) : Fin 640 := ⟨r.val % 640, by omega⟩

theorem labs_read (arg4 : Memref sig .tc .vmem S3x640 .i32) (X : BufTy.Contents (Elt Ideal) arg4.view.ty)
    (a : View sig .tc .vmem S1920x128 .i32) (f : BufTy.Contents (Elt Ideal) a.ty) (n : ℕ) (hn : n ≤ 15) (r : Fin 1920) (l : Fin 128) (h : r.val < 128 * n) :
    a.read (Elt Ideal) (a.writes (Elt Ideal) f (labs arg4 X n)) (ix2 r l) = permLab (arg4.view.read (Elt Ideal) X (ix2 (tokRow r) (tokCol r))) := by
  induction n with
  | zero => omega
  | succ n ih =>
    have hm : n % 15 = n := Nat.mod_eq_of_lt (by omega)
    have hr : r.val < 1920 := r.isLt
    unfold labs
    by_cases hlt : r.val < 128 * n
    · rw [View.read_writes_cons_rows_of_not_mem (hoff := rfl) (hW := rfl) (h := by rw [hm]; exact .inl hlt)]
      exact ih (by omega) hlt
    · have h64 : r.val - 128 * n < 128 := by omega
      refine (View.read_writes_cons_rows_of_mem _ _ _ _ _ (ix2 r l) (ix2 ⟨r.val - 128 * n, h64⟩ l) rfl
        (by show r.val = 128 * (n % 15) + (r.val - 128 * n); rw [hm]; omega) rfl).trans ?_
      rw [pay38_apply, View.readAt_apply]
      refine congrArg permLab (congrArg _ (funext fun b => Fin.ext ?_))
      fin_cases b
      · have : n % 15 / 5 + 1 * 0 = r.val / 640 := by rw [hm]; omega
        exact this
      · have : 128 * (n % 15 % 5) + 1 * (r.val - 128 * n) = r.val % 640 := by rw [hm]; omega
        exact this

/-! ## The initial state -/

/-- The value the running maximum starts from. -/
def negBig : EReal := Scalar.ofBits (F := Ideal) .f32 0xF149F2CA#32

theorem init_M (a : View sig .tc .vmem S1920x128 .f32) (f : BufTy.Contents (Elt Ideal) a.ty) (r : Fin 1920) (l : Fin 128) :
    a.read (Elt Ideal) (a.writes (Elt Ideal) f kernelRun0_A.sl.HS4_1) (ix2 r l) = negBig := by
  refine (View.read_writes_cons_rows_of_mem _ _ _ _ _ (ix2 r l) (ix2 r l) rfl (by simp) rfl).trans ?_
  pointwise [k0_pay39]
  rfl

theorem init_S (a : View sig .tc .vmem S1920x128 .f32) (f : BufTy.Contents (Elt Ideal) a.ty) (r : Fin 1920) (l : Fin 128) :
    a.read (Elt Ideal) (a.writes (Elt Ideal) f kernelRun0_A.sl.HS5_1) (ix2 r l) = 0 := by
  refine (View.read_writes_cons_rows_of_mem _ _ _ _ _ (ix2 r l) (ix2 r l) rfl (by simp) rfl).trans ?_
  pointwise [k0_pay40]

theorem init_T (a : View sig .tc .vmem S1920x128 .f32) (f : BufTy.Contents (Elt Ideal) a.ty) (r : Fin 1920) (l : Fin 128) :
    a.read (Elt Ideal) (a.writes (Elt Ideal) f kernelRun0_A.sl.HS6_1) (ix2 r l) = 0 := by
  refine (View.read_writes_cons_rows_of_mem _ _ _ _ _ (ix2 r l) (ix2 r l) rfl (by simp) rfl).trans ?_
  pointwise [k0_pay211]

/-! ## One point -/

/-- The two logits of a row in a lane. -/
def fstLogit (x0 : Vec Ideal S1920x6144 .bf16) (x1 : Vec Ideal S256x3072 .i8) (x2 : Vec Ideal S96x256 .f32) (r : Fin 1920) (l : Fin 128) : EReal :=
  logit x0 x1 x2 r (vcol (fstLane l))
def sndLogit (x0 : Vec Ideal S1920x6144 .bf16) (x1 : Vec Ideal S256x3072 .i8) (x2 : Vec Ideal S96x256 .f32) (r : Fin 1920) (l : Fin 128) : EReal :=
  logit x0 x1 x2 r (vcol (sndLane l))

variable (c : Dev nD) (i : grid0.Coords) (arg1 : Memref sig .tc .vmem S1920x6144 .bf16) (harg1 : arg1.IsWhole) (arg2 : Memref sig .tc .vmem S256x3072 .i8) (harg2 : arg2.IsWhole) (arg3 : Memref sig .tc .vmem S96x256 .f32) (harg3 : arg3.IsWhole) (arg4 : Memref sig .tc .vmem S3x640 .i32) (harg4 : arg4.IsWhole) (arg5 : Memref sig .tc .vmem S3x640 .i32) (harg5 : arg5.IsWhole) (arg6 : Memref sig .tc .vmem S3x640 .i32) (harg6 : arg6.IsWhole) (arg7 : Memref sig .tc .smem S6 .f32) (harg7 : arg7.IsWhole) (arg8 : Memref sig .tc .smem S3 .i32) (harg8 : arg8.IsWhole) (arg9 : Memref sig .tc .smem S3 .i32) (harg9 : arg9.IsWhole) (arg10 : Memref sig .tc .smem S6 .f32) (harg10 : arg10.IsWhole) (arg11 : Memref sig .tc .smem S3 .f32) (harg11 : arg11.IsWhole) (arg12 : Memref sig .tc .smem S3 .f32) (harg12 : arg12.IsWhole) (arg13 : Memref sig .tc .vmem S3x640 .f32) (harg13 : arg13.IsWhole) (arg14 : Memref sig .tc .vmem S96x2x256 .bf16) (harg14 : arg14.IsWhole) (arg15 : Memref sig .tc .vmem S6144x256 .bf16) (harg15 : arg15.IsWhole) (arg16 : Memref sig .tc .vmem S1920x256 .f32) (harg16 : arg16.IsWhole) (arg17 : Memref sig .tc .vmem S1920x128 .i32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .f32) (harg20 : arg20.IsWhole) (x0 : Vec Ideal S1920x6144 .bf16) (x1 : Vec Ideal S256x3072 .i8) (x2 : Vec Ideal S96x256 .f32) (x3 : Vec Ideal S3x640 .i32) (x4 : Vec Ideal S3x640 .i32) (x5 : Vec Ideal S3x640 .i32) (x6 : Vec Ideal S6 .f32) (x7 : Vec Ideal S3 .i32) (x8 : Vec Ideal S3 .i32)

theorem pieces_A (hc0 : cond0_0 i) (hc1 : ¬cond0_1 i)  :
    (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8).2.1 = (Gen.pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0)) (arg16.view.writes (Elt Ideal) arg16.view.junk (kernelRun0_A.sl.HS2_1 c arg1 harg1 arg2 harg2 arg3 harg3 arg14 arg15 x0 x1 x2)) (arg17.view.writes (Elt Ideal) arg17.view.junk (kernelRun0_A.sl.HS3_15 c arg4 harg4 x3)) (arg18.view.writes (Elt Ideal) arg18.view.junk kernelRun0_A.sl.HS4_1) (arg19.view.writes (Elt Ideal) arg19.view.junk kernelRun0_A.sl.HS5_1) (arg20.view.writes (Elt Ideal) arg20.view.junk kernelRun0_A.sl.HS6_1) (Scf.trips k0_t1_loop.lb k0_t1_loop.ub k0_t1_loop.st)).1 ++ kernelRun0_A.sl.HS4_1 ∧ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8).2.2.1 = (Gen.pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0)) (arg16.view.writes (Elt Ideal) arg16.view.junk (kernelRun0_A.sl.HS2_1 c arg1 harg1 arg2 harg2 arg3 harg3 arg14 arg15 x0 x1 x2)) (arg17.view.writes (Elt Ideal) arg17.view.junk (kernelRun0_A.sl.HS3_15 c arg4 harg4 x3)) (arg18.view.writes (Elt Ideal) arg18.view.junk kernelRun0_A.sl.HS4_1) (arg19.view.writes (Elt Ideal) arg19.view.junk kernelRun0_A.sl.HS5_1) (arg20.view.writes (Elt Ideal) arg20.view.junk kernelRun0_A.sl.HS6_1) (Scf.trips k0_t1_loop.lb k0_t1_loop.ub k0_t1_loop.st)).2.1 ++ kernelRun0_A.sl.HS5_1 ∧ (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8).2.2.2.1 = (Gen.pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0)) (arg16.view.writes (Elt Ideal) arg16.view.junk (kernelRun0_A.sl.HS2_1 c arg1 harg1 arg2 harg2 arg3 harg3 arg14 arg15 x0 x1 x2)) (arg17.view.writes (Elt Ideal) arg17.view.junk (kernelRun0_A.sl.HS3_15 c arg4 harg4 x3)) (arg18.view.writes (Elt Ideal) arg18.view.junk kernelRun0_A.sl.HS4_1) (arg19.view.writes (Elt Ideal) arg19.view.junk kernelRun0_A.sl.HS5_1) (arg20.view.writes (Elt Ideal) arg20.view.junk kernelRun0_A.sl.HS6_1) (Scf.trips k0_t1_loop.lb k0_t1_loop.ub k0_t1_loop.st)).2.2 ++ kernelRun0_A.sl.HS6_1 := ⟨rfl, rfl, rfl⟩

theorem step_A (L4 L5 L6 : List (View.Piece (Elt Ideal) S1920x128 .f32))
    (e : L4 = (Gen.pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0)) (arg16.view.writes (Elt Ideal) arg16.view.junk (kernelRun0_A.sl.HS2_1 c arg1 harg1 arg2 harg2 arg3 harg3 arg14 arg15 x0 x1 x2)) (arg17.view.writes (Elt Ideal) arg17.view.junk (kernelRun0_A.sl.HS3_15 c arg4 harg4 x3)) (arg18.view.writes (Elt Ideal) arg18.view.junk kernelRun0_A.sl.HS4_1) (arg19.view.writes (Elt Ideal) arg19.view.junk kernelRun0_A.sl.HS5_1) (arg20.view.writes (Elt Ideal) arg20.view.junk kernelRun0_A.sl.HS6_1) (Scf.trips k0_t1_loop.lb k0_t1_loop.ub k0_t1_loop.st)).1 ++ kernelRun0_A.sl.HS4_1 ∧ L5 = (Gen.pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0)) (arg16.view.writes (Elt Ideal) arg16.view.junk (kernelRun0_A.sl.HS2_1 c arg1 harg1 arg2 harg2 arg3 harg3 arg14 arg15 x0 x1 x2)) (arg17.view.writes (Elt Ideal) arg17.view.junk (kernelRun0_A.sl.HS3_15 c arg4 harg4 x3)) (arg18.view.writes (Elt Ideal) arg18.view.junk kernelRun0_A.sl.HS4_1) (arg19.view.writes (Elt Ideal) arg19.view.junk kernelRun0_A.sl.HS5_1) (arg20.view.writes (Elt Ideal) arg20.view.junk kernelRun0_A.sl.HS6_1) (Scf.trips k0_t1_loop.lb k0_t1_loop.ub k0_t1_loop.st)).2.1 ++ kernelRun0_A.sl.HS5_1 ∧ L6 = (Gen.pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0)) (arg16.view.writes (Elt Ideal) arg16.view.junk (kernelRun0_A.sl.HS2_1 c arg1 harg1 arg2 harg2 arg3 harg3 arg14 arg15 x0 x1 x2)) (arg17.view.writes (Elt Ideal) arg17.view.junk (kernelRun0_A.sl.HS3_15 c arg4 harg4 x3)) (arg18.view.writes (Elt Ideal) arg18.view.junk kernelRun0_A.sl.HS4_1) (arg19.view.writes (Elt Ideal) arg19.view.junk kernelRun0_A.sl.HS5_1) (arg20.view.writes (Elt Ideal) arg20.view.junk kernelRun0_A.sl.HS6_1) (Scf.trips k0_t1_loop.lb k0_t1_loop.ub k0_t1_loop.st)).2.2 ++ kernelRun0_A.sl.HS6_1)
    (f18 : BufTy.Contents (Elt Ideal) arg18.view.ty) (f19 : BufTy.Contents (Elt Ideal) arg19.view.ty) (f20 : BufTy.Contents (Elt Ideal) arg20.view.ty)
    (r : Fin 1920) (l : Fin 128) :
    arg18.view.read (Elt Ideal) (arg18.view.writes (Elt Ideal) f18 L4) (ix2 r l) = upM (fstLogit x0 x1 x2 r l) (sndLogit x0 x1 x2 r l) negBig
    ∧ arg19.view.read (Elt Ideal) (arg19.view.writes (Elt Ideal) f19 L5) (ix2 r l) = upS (fstLogit x0 x1 x2 r l) (sndLogit x0 x1 x2 r l) negBig 0
    ∧ arg20.view.read (Elt Ideal) (arg20.view.writes (Elt Ideal) f20 L6) (ix2 r l) = upT (BitVec.ofNat 32 (i 0)) (permLab (x3 (ix2 (tokRow r) (tokCol r)))) l (fstLogit x0 x1 x2 r l) (sndLogit x0 x1 x2 r l) 0 := by
  have ht : Scf.trips k0_t1_loop.lb k0_t1_loop.ub k0_t1_loop.st = 30 := trips_eq
  rw [ht] at e
  have h := rows_after c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0))
    (arg16.view.writes (Elt Ideal) arg16.view.junk (kernelRun0_A.sl.HS2_1 c arg1 harg1 arg2 harg2 arg3 harg3 arg14 arg15 x0 x1 x2)) (arg17.view.writes (Elt Ideal) arg17.view.junk (kernelRun0_A.sl.HS3_15 c arg4 harg4 x3)) (arg18.view.writes (Elt Ideal) arg18.view.junk kernelRun0_A.sl.HS4_1) (arg19.view.writes (Elt Ideal) arg19.view.junk kernelRun0_A.sl.HS5_1) (arg20.view.writes (Elt Ideal) arg20.view.junk kernelRun0_A.sl.HS6_1) 30 le_rfl (arg18.view.writes (Elt Ideal) f18 kernelRun0_A.sl.HS4_1) (arg19.view.writes (Elt Ideal) f19 kernelRun0_A.sl.HS5_1) (arg20.view.writes (Elt Ideal) f20 kernelRun0_A.sl.HS6_1) r l
  have hr : r.val < 64 * 30 := r.isLt
  have ha : ∀ y, arg16.view.read (Elt Ideal) (arg16.view.writes (Elt Ideal) arg16.view.junk (kernelRun0_A.sl.HS2_1 c arg1 harg1 arg2 harg2 arg3 harg3 arg14 arg15 x0 x1 x2)) (ix2 r y)
      = logit x0 x1 x2 r (vcol y) := fun y => by rw [View.read_writes_junk_eq_canon, logits_A]
  simp only [if_pos hr, ha, init_M, init_S, init_T, labs_eq, labs_read _ _ _ _ 15 le_rfl r l hr, Memref.IsWhole.read_unread] at h
  have ht : Scf.trips k0_t1_loop.lb k0_t1_loop.ub k0_t1_loop.st = 30 := trips_eq
  rw [e.1, e.2.1, e.2.2, View.writes_append, View.writes_append, View.writes_append]
  exact h

theorem pieces_B (hc0 : ¬cond0_0 i) (hc1 : ¬cond0_1 i) (xs3 : Vec Ideal S1920x128 .i32) (xs4 : Vec Ideal S1920x128 .f32) (xs5 : Vec Ideal S1920x128 .f32) (xs6 : Vec Ideal S1920x128 .f32) :
    (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs3 xs4 xs5 xs6).2.1 = (Gen.pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0)) (arg16.view.writes (Elt Ideal) arg16.view.junk (kernelRun0_B.sl.HS2_1 c arg1 harg1 arg2 harg2 arg3 harg3 arg14 arg15 x0 x1 x2)) (harg17.unread xs3) (harg18.unread xs4) (harg19.unread xs5) (harg20.unread xs6) (Scf.trips k0_t1_loop.lb k0_t1_loop.ub k0_t1_loop.st)).1 ∧ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs3 xs4 xs5 xs6).2.2.1 = (Gen.pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0)) (arg16.view.writes (Elt Ideal) arg16.view.junk (kernelRun0_B.sl.HS2_1 c arg1 harg1 arg2 harg2 arg3 harg3 arg14 arg15 x0 x1 x2)) (harg17.unread xs3) (harg18.unread xs4) (harg19.unread xs5) (harg20.unread xs6) (Scf.trips k0_t1_loop.lb k0_t1_loop.ub k0_t1_loop.st)).2.1 ∧ (kernelRun0_B (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xs3 xs4 xs5 xs6).2.2.2.1 = (Gen.pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0)) (arg16.view.writes (Elt Ideal) arg16.view.junk (kernelRun0_B.sl.HS2_1 c arg1 harg1 arg2 harg2 arg3 harg3 arg14 arg15 x0 x1 x2)) (harg17.unread xs3) (harg18.unread xs4) (harg19.unread xs5) (harg20.unread xs6) (Scf.trips k0_t1_loop.lb k0_t1_loop.ub k0_t1_loop.st)).2.2 := ⟨rfl, rfl, rfl⟩

theorem step_B (L4 L5 L6 : List (View.Piece (Elt Ideal) S1920x128 .f32)) (xs3 : Vec Ideal S1920x128 .i32) (xs4 : Vec Ideal S1920x128 .f32) (xs5 : Vec Ideal S1920x128 .f32) (xs6 : Vec Ideal S1920x128 .f32)
    (e : L4 = (Gen.pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0)) (arg16.view.writes (Elt Ideal) arg16.view.junk (kernelRun0_B.sl.HS2_1 c arg1 harg1 arg2 harg2 arg3 harg3 arg14 arg15 x0 x1 x2)) (harg17.unread xs3) (harg18.unread xs4) (harg19.unread xs5) (harg20.unread xs6) (Scf.trips k0_t1_loop.lb k0_t1_loop.ub k0_t1_loop.st)).1 ∧ L5 = (Gen.pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0)) (arg16.view.writes (Elt Ideal) arg16.view.junk (kernelRun0_B.sl.HS2_1 c arg1 harg1 arg2 harg2 arg3 harg3 arg14 arg15 x0 x1 x2)) (harg17.unread xs3) (harg18.unread xs4) (harg19.unread xs5) (harg20.unread xs6) (Scf.trips k0_t1_loop.lb k0_t1_loop.ub k0_t1_loop.st)).2.1 ∧ L6 = (Gen.pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0)) (arg16.view.writes (Elt Ideal) arg16.view.junk (kernelRun0_B.sl.HS2_1 c arg1 harg1 arg2 harg2 arg3 harg3 arg14 arg15 x0 x1 x2)) (harg17.unread xs3) (harg18.unread xs4) (harg19.unread xs5) (harg20.unread xs6) (Scf.trips k0_t1_loop.lb k0_t1_loop.ub k0_t1_loop.st)).2.2)
    (f18 : BufTy.Contents (Elt Ideal) arg18.view.ty) (f19 : BufTy.Contents (Elt Ideal) arg19.view.ty) (f20 : BufTy.Contents (Elt Ideal) arg20.view.ty)
    (r : Fin 1920) (l : Fin 128) :
    arg18.view.read (Elt Ideal) (arg18.view.writes (Elt Ideal) f18 L4) (ix2 r l) = upM (fstLogit x0 x1 x2 r l) (sndLogit x0 x1 x2 r l) (xs4 (ix2 r l))
    ∧ arg19.view.read (Elt Ideal) (arg19.view.writes (Elt Ideal) f19 L5) (ix2 r l) = upS (fstLogit x0 x1 x2 r l) (sndLogit x0 x1 x2 r l) (xs4 (ix2 r l)) (xs5 (ix2 r l))
    ∧ arg20.view.read (Elt Ideal) (arg20.view.writes (Elt Ideal) f20 L6) (ix2 r l) = upT (BitVec.ofNat 32 (i 0)) (xs3 (ix2 r l)) l (fstLogit x0 x1 x2 r l) (sndLogit x0 x1 x2 r l) (xs6 (ix2 r l)) := by
  have ht : Scf.trips k0_t1_loop.lb k0_t1_loop.ub k0_t1_loop.st = 30 := trips_eq
  rw [ht] at e
  have h := rows_after c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0))
    (arg16.view.writes (Elt Ideal) arg16.view.junk (kernelRun0_B.sl.HS2_1 c arg1 harg1 arg2 harg2 arg3 harg3 arg14 arg15 x0 x1 x2)) (harg17.unread xs3) (harg18.unread xs4) (harg19.unread xs5) (harg20.unread xs6) 30 le_rfl f18 f19 f20 r l
  have hr : r.val < 64 * 30 := r.isLt
  have ha : ∀ y, arg16.view.read (Elt Ideal) (arg16.view.writes (Elt Ideal) arg16.view.junk (kernelRun0_B.sl.HS2_1 c arg1 harg1 arg2 harg2 arg3 harg3 arg14 arg15 x0 x1 x2)) (ix2 r y)
      = logit x0 x1 x2 r (vcol y) := fun y => by rw [View.read_writes_junk_eq_canon, logits_B]
  simp only [if_pos hr, ha, Memref.IsWhole.read_unread] at h
  rw [e.1, e.2.1, e.2.2]
  exact h

theorem pieces_C (hc0 : ¬cond0_0 i) (hc1 : cond0_1 i) (xo9 : Vec Ideal S6 .f32) (xs3 : Vec Ideal S1920x128 .i32) (xs4 : Vec Ideal S1920x128 .f32) (xs5 : Vec Ideal S1920x128 .f32) (xs6 : Vec Ideal S1920x128 .f32) (k0_hw1 : k0_chk1 i (arg8.view.readAt (Elt Ideal) (Rect.unit (s := S3) ![0] S1.size inb_S3_S1_0).toLoadRect (harg8.unread x7) (Shape.Idx.first (numel1_S1.symm ▸ Nat.one_pos)))) (k0_hw2 : k0_chk2 i (arg9.view.readAt (Elt Ideal) (Rect.unit (s := S3) ![0] S1.size inb_S3_S1_0).toLoadRect (harg9.unread x8) (Shape.Idx.first (numel1_S1.symm ▸ Nat.one_pos)))) (k0_hw3 : k0_chk3 i (arg8.view.readAt (Elt Ideal) (Rect.unit (s := S3) ![1] S1.size inb_S3_S1_1).toLoadRect (harg8.unread x7) (Shape.Idx.first (numel1_S1.symm ▸ Nat.one_pos)))) (k0_hw4 : k0_chk4 i (arg9.view.readAt (Elt Ideal) (Rect.unit (s := S3) ![1] S1.size inb_S3_S1_1).toLoadRect (harg9.unread x8) (Shape.Idx.first (numel1_S1.symm ▸ Nat.one_pos)))) (k0_hw5 : k0_chk5 i (arg8.view.readAt (Elt Ideal) (Rect.unit (s := S3) ![2] S1.size inb_S3_S1_2).toLoadRect (harg8.unread x7) (Shape.Idx.first (numel1_S1.symm ▸ Nat.one_pos)))) (k0_hw6 : k0_chk6 i (arg9.view.readAt (Elt Ideal) (Rect.unit (s := S3) ![2] S1.size inb_S3_S1_2).toLoadRect (harg9.unread x8) (Shape.Idx.first (numel1_S1.symm ▸ Nat.one_pos)))) :
    (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xo9 xs3 xs4 xs5 xs6 k0_hw1 k0_hw2 k0_hw3 k0_hw4 k0_hw5 k0_hw6).2.2.2.2.2.1 = (Gen.pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0)) (arg16.view.writes (Elt Ideal) arg16.view.junk (kernelRun0_C.sl.HS2_1 c arg1 harg1 arg2 harg2 arg3 harg3 arg14 arg15 x0 x1 x2)) (harg17.unread xs3) (harg18.unread xs4) (harg19.unread xs5) (harg20.unread xs6) (Scf.trips k0_t1_loop.lb k0_t1_loop.ub k0_t1_loop.st)).1 ∧ (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xo9 xs3 xs4 xs5 xs6 k0_hw1 k0_hw2 k0_hw3 k0_hw4 k0_hw5 k0_hw6).2.2.2.2.2.2.1 = (Gen.pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0)) (arg16.view.writes (Elt Ideal) arg16.view.junk (kernelRun0_C.sl.HS2_1 c arg1 harg1 arg2 harg2 arg3 harg3 arg14 arg15 x0 x1 x2)) (harg17.unread xs3) (harg18.unread xs4) (harg19.unread xs5) (harg20.unread xs6) (Scf.trips k0_t1_loop.lb k0_t1_loop.ub k0_t1_loop.st)).2.1 ∧ (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xo9 xs3 xs4 xs5 xs6 k0_hw1 k0_hw2 k0_hw3 k0_hw4 k0_hw5 k0_hw6).2.2.2.2.2.2.2.1 = (Gen.pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0)) (arg16.view.writes (Elt Ideal) arg16.view.junk (kernelRun0_C.sl.HS2_1 c arg1 harg1 arg2 harg2 arg3 harg3 arg14 arg15 x0 x1 x2)) (harg17.unread xs3) (harg18.unread xs4) (harg19.unread xs5) (harg20.unread xs6) (Scf.trips k0_t1_loop.lb k0_t1_loop.ub k0_t1_loop.st)).2.2 := ⟨rfl, rfl, rfl⟩

theorem step_C (L4 L5 L6 : List (View.Piece (Elt Ideal) S1920x128 .f32)) (xs3 : Vec Ideal S1920x128 .i32) (xs4 : Vec Ideal S1920x128 .f32) (xs5 : Vec Ideal S1920x128 .f32) (xs6 : Vec Ideal S1920x128 .f32)
    (e : L4 = (Gen.pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0)) (arg16.view.writes (Elt Ideal) arg16.view.junk (kernelRun0_C.sl.HS2_1 c arg1 harg1 arg2 harg2 arg3 harg3 arg14 arg15 x0 x1 x2)) (harg17.unread xs3) (harg18.unread xs4) (harg19.unread xs5) (harg20.unread xs6) (Scf.trips k0_t1_loop.lb k0_t1_loop.ub k0_t1_loop.st)).1 ∧ L5 = (Gen.pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0)) (arg16.view.writes (Elt Ideal) arg16.view.junk (kernelRun0_C.sl.HS2_1 c arg1 harg1 arg2 harg2 arg3 harg3 arg14 arg15 x0 x1 x2)) (harg17.unread xs3) (harg18.unread xs4) (harg19.unread xs5) (harg20.unread xs6) (Scf.trips k0_t1_loop.lb k0_t1_loop.ub k0_t1_loop.st)).2.1 ∧ L6 = (Gen.pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0)) (arg16.view.writes (Elt Ideal) arg16.view.junk (kernelRun0_C.sl.HS2_1 c arg1 harg1 arg2 harg2 arg3 harg3 arg14 arg15 x0 x1 x2)) (harg17.unread xs3) (harg18.unread xs4) (harg19.unread xs5) (harg20.unread xs6) (Scf.trips k0_t1_loop.lb k0_t1_loop.ub k0_t1_loop.st)).2.2)
    (f18 : BufTy.Contents (Elt Ideal) arg18.view.ty) (f19 : BufTy.Contents (Elt Ideal) arg19.view.ty) (f20 : BufTy.Contents (Elt Ideal) arg20.view.ty)
    (r : Fin 1920) (l : Fin 128) :
    arg18.view.read (Elt Ideal) (arg18.view.writes (Elt Ideal) f18 L4) (ix2 r l) = upM (fstLogit x0 x1 x2 r l) (sndLogit x0 x1 x2 r l) (xs4 (ix2 r l))
    ∧ arg19.view.read (Elt Ideal) (arg19.view.writes (Elt Ideal) f19 L5) (ix2 r l) = upS (fstLogit x0 x1 x2 r l) (sndLogit x0 x1 x2 r l) (xs4 (ix2 r l)) (xs5 (ix2 r l))
    ∧ arg20.view.read (Elt Ideal) (arg20.view.writes (Elt Ideal) f20 L6) (ix2 r l) = upT (BitVec.ofNat 32 (i 0)) (xs3 (ix2 r l)) l (fstLogit x0 x1 x2 r l) (sndLogit x0 x1 x2 r l) (xs6 (ix2 r l)) := by
  have ht : Scf.trips k0_t1_loop.lb k0_t1_loop.ub k0_t1_loop.st = 30 := trips_eq
  rw [ht] at e
  have h := rows_after c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0))
    (arg16.view.writes (Elt Ideal) arg16.view.junk (kernelRun0_C.sl.HS2_1 c arg1 harg1 arg2 harg2 arg3 harg3 arg14 arg15 x0 x1 x2)) (harg17.unread xs3) (harg18.unread xs4) (harg19.unread xs5) (harg20.unread xs6) 30 le_rfl f18 f19 f20 r l
  have hr : r.val < 64 * 30 := r.isLt
  have ha : ∀ y, arg16.view.read (Elt Ideal) (arg16.view.writes (Elt Ideal) arg16.view.junk (kernelRun0_C.sl.HS2_1 c arg1 harg1 arg2 harg2 arg3 harg3 arg14 arg15 x0 x1 x2)) (ix2 r y)
      = logit x0 x1 x2 r (vcol y) := fun y => by rw [View.read_writes_junk_eq_canon, logits_C]
  simp only [if_pos hr, ha, Memref.IsWhole.read_unread] at h
  rw [e.1, e.2.1, e.2.2]
  exact h

theorem labPieces_A (hc0 : cond0_0 i) (hc1 : ¬cond0_1 i) : (kernelRun0_A (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8).1 = labs arg4 (harg4.unread x3) 15 := rfl

end Cert.KernelIdeal.Hand

end
-- ==== Proof.Tokens.lean ====
/- The last point: every token's log probability, from the running maxima, sums and target logits of its row's lanes. -/
module

public import proofs.«01_k».proof.Proof.State

@[expose] public section

set_option maxRecDepth 65536

noncomputable section

namespace Cert.KernelIdeal.Hand

open Idealize.ShloMosaic Cert.KernelIdeal Cert.KernelIdeal.Gen

/-- The greatest of a row's lanes. -/
def topOf (m : Fin 128 → EReal) : EReal := Finset.fold max (Ideal.ofBits FTy.f32 4286578688#32) m Finset.univ

/-- A token's log probability from the lanes of its row. -/
def lpOf (m s t : Fin 128 → EReal) : EReal := ∑ l, t l - (topOf m + Ideal.log (∑ l, s l * Ideal.exp (m l - topOf m)))

theorem pay190_apply (M S T : Vec Ideal S128x128 .f32) (r : Fin 128) :
    k0_pay190 M S T (ix2 0 r) = lpOf (fun l => M (ix2 r l)) (fun l => S (ix2 r l)) (fun l => T (ix2 r l)) := by
  pointwise [k0_pay190]
  rfl

/-- A block of 128 rows of the carried state. -/
def blkOf (a : Memref sig .tc .vmem S1920x128 .f32) (X : BufTy.Contents (Elt Ideal) a.view.ty) (n : ℕ) : Vec Ideal S128x128 .f32 :=
  View.readAt (Elt Ideal) a.view (Rect.unit (s := S1920x128) ![128 * (n % 15), 0] S128x128.size (inb_lab n)).toLoadRect X

theorem blkOf_apply (a : Memref sig .tc .vmem S1920x128 .f32) (X : BufTy.Contents (Elt Ideal) a.view.ty) (n : ℕ) (hn : n < 15)
    (r : Fin 1920) (q : Fin 128) (hr : r.val = 128 * n + q.val) (l : Fin 128) : blkOf a X n (ix2 q l) = a.view.read (Elt Ideal) X (ix2 r l) := by
  unfold blkOf
  rw [View.readAt_apply]
  refine congrArg _ (funext fun b => Fin.ext ?_)
  have hm : n % 15 = n := Nat.mod_eq_of_lt hn
  fin_cases b
  · have : 128 * (n % 15) + 1 * q.val = r.val := by rw [hm]; omega
    exact this
  · have : 0 + 1 * l.val = l.val := by omega
    exact this

/-- The stores of the first `n` blocks of 128 tokens' log probabilities. -/
def toks (a b c : Memref sig .tc .vmem S1920x128 .f32) (X : BufTy.Contents (Elt Ideal) a.view.ty) (Y : BufTy.Contents (Elt Ideal) b.view.ty)
    (Z : BufTy.Contents (Elt Ideal) c.view.ty) : ℕ → List (View.Piece (Elt Ideal) S3x640 .f32)
  | 0 => []
  | n + 1 => ⟨Rect.unit (s := S3x640) ![n % 15 / 5, 128 * (n % 15 % 5)] S1x128.size (inb_tok n), k0_pay190 (blkOf a X n) (blkOf b Y n) (blkOf c Z n)⟩
      :: toks a b c X Y Z n

theorem toks_read (a b c : Memref sig .tc .vmem S1920x128 .f32) (X : BufTy.Contents (Elt Ideal) a.view.ty) (Y : BufTy.Contents (Elt Ideal) b.view.ty)
    (Z : BufTy.Contents (Elt Ideal) c.view.ty) (o : View sig .tc .vmem S3x640 .f32) (f : BufTy.Contents (Elt Ideal) o.ty) (n : ℕ) (hn : n ≤ 15)
    (r : Fin 1920) (h : r.val < 128 * n) :
    o.read (Elt Ideal) (o.writes (Elt Ideal) f (toks a b c X Y Z n)) (ix2 (tokRow r) (tokCol r))
      = lpOf (fun l => a.view.read (Elt Ideal) X (ix2 r l)) (fun l => b.view.read (Elt Ideal) Y (ix2 r l)) (fun l => c.view.read (Elt Ideal) Z (ix2 r l)) := by
  induction n with
  | zero => omega
  | succ n ih =>
    have hm : n % 15 = n := Nat.mod_eq_of_lt (by omega)
    have hr : r.val < 1920 := r.isLt
    unfold toks
    by_cases hlt : r.val < 128 * n
    · refine Eq.trans ?_ (ih (by omega) hlt)
      by_cases hrow : r.val / 640 = n / 5
      · refine View.read_writes_cons_unit_of_not_mem _ _ _ _ _ _ rfl (1 : Fin 2) (.inl ?_)
        show r.val % 640 < 128 * (n % 15 % 5)
        rw [hm]; omega
      · refine View.read_writes_cons_unit_of_not_mem _ _ _ _ _ _ rfl (0 : Fin 2) (.inl ?_)
        show r.val / 640 < n % 15 / 5
        rw [hm]; omega
    · have hq : r.val - 128 * n < 128 := by omega
      refine (View.read_writes_cons_unit_of_mem _ _ _ _ _ (ix2 (tokRow r) (tokCol r)) (ix2 0 ⟨r.val - 128 * n, hq⟩) rfl
        (Fin.forall_fin_two.mpr ⟨?_, ?_⟩)).trans ?_
      · show r.val / 640 = n % 15 / 5 + 0
        rw [hm]; omega
      · show r.val % 640 = 128 * (n % 15 % 5) + (r.val - 128 * n)
        rw [hm]; omega
      · rw [pay190_apply]
        have hb := fun (m : Memref sig .tc .vmem S1920x128 .f32) (W : BufTy.Contents (Elt Ideal) m.view.ty) (l : Fin 128) =>
          blkOf_apply m W n (by omega) r ⟨r.val - 128 * n, hq⟩ (by show r.val = 128 * n + (r.val - 128 * n); omega) l
        simp only [hb]

variable (c : Dev nD) (i : grid0.Coords) (arg1 : Memref sig .tc .vmem S1920x6144 .bf16) (harg1 : arg1.IsWhole) (arg2 : Memref sig .tc .vmem S256x3072 .i8) (harg2 : arg2.IsWhole) (arg3 : Memref sig .tc .vmem S96x256 .f32) (harg3 : arg3.IsWhole) (arg4 : Memref sig .tc .vmem S3x640 .i32) (harg4 : arg4.IsWhole) (arg5 : Memref sig .tc .vmem S3x640 .i32) (harg5 : arg5.IsWhole) (arg6 : Memref sig .tc .vmem S3x640 .i32) (harg6 : arg6.IsWhole) (arg7 : Memref sig .tc .smem S6 .f32) (harg7 : arg7.IsWhole) (arg8 : Memref sig .tc .smem S3 .i32) (harg8 : arg8.IsWhole) (arg9 : Memref sig .tc .smem S3 .i32) (harg9 : arg9.IsWhole) (arg10 : Memref sig .tc .smem S6 .f32) (harg10 : arg10.IsWhole) (arg11 : Memref sig .tc .smem S3 .f32) (harg11 : arg11.IsWhole) (arg12 : Memref sig .tc .smem S3 .f32) (harg12 : arg12.IsWhole) (arg13 : Memref sig .tc .vmem S3x640 .f32) (harg13 : arg13.IsWhole) (arg14 : Memref sig .tc .vmem S96x2x256 .bf16) (harg14 : arg14.IsWhole) (arg15 : Memref sig .tc .vmem S6144x256 .bf16) (harg15 : arg15.IsWhole) (arg16 : Memref sig .tc .vmem S1920x256 .f32) (harg16 : arg16.IsWhole) (arg17 : Memref sig .tc .vmem S1920x128 .i32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .f32) (harg20 : arg20.IsWhole) (x0 : Vec Ideal S1920x6144 .bf16) (x1 : Vec Ideal S256x3072 .i8) (x2 : Vec Ideal S96x256 .f32) (x3 : Vec Ideal S3x640 .i32) (x4 : Vec Ideal S3x640 .i32) (x5 : Vec Ideal S3x640 .i32) (x6 : Vec Ideal S6 .f32) (x7 : Vec Ideal S3 .i32) (x8 : Vec Ideal S3 .i32)

theorem tokPieces_C (hc0 : ¬cond0_0 i) (hc1 : cond0_1 i) (xo9 : Vec Ideal S6 .f32) (xs3 : Vec Ideal S1920x128 .i32) (xs4 : Vec Ideal S1920x128 .f32) (xs5 : Vec Ideal S1920x128 .f32) (xs6 : Vec Ideal S1920x128 .f32) (k0_hw1 : k0_chk1 i (arg8.view.readAt (Elt Ideal) (Rect.unit (s := S3) ![0] S1.size inb_S3_S1_0).toLoadRect (harg8.unread x7) (Shape.Idx.first (numel1_S1.symm ▸ Nat.one_pos)))) (k0_hw2 : k0_chk2 i (arg9.view.readAt (Elt Ideal) (Rect.unit (s := S3) ![0] S1.size inb_S3_S1_0).toLoadRect (harg9.unread x8) (Shape.Idx.first (numel1_S1.symm ▸ Nat.one_pos)))) (k0_hw3 : k0_chk3 i (arg8.view.readAt (Elt Ideal) (Rect.unit (s := S3) ![1] S1.size inb_S3_S1_1).toLoadRect (harg8.unread x7) (Shape.Idx.first (numel1_S1.symm ▸ Nat.one_pos)))) (k0_hw4 : k0_chk4 i (arg9.view.readAt (Elt Ideal) (Rect.unit (s := S3) ![1] S1.size inb_S3_S1_1).toLoadRect (harg9.unread x8) (Shape.Idx.first (numel1_S1.symm ▸ Nat.one_pos)))) (k0_hw5 : k0_chk5 i (arg8.view.readAt (Elt Ideal) (Rect.unit (s := S3) ![2] S1.size inb_S3_S1_2).toLoadRect (harg8.unread x7) (Shape.Idx.first (numel1_S1.symm ▸ Nat.one_pos)))) (k0_hw6 : k0_chk6 i (arg9.view.readAt (Elt Ideal) (Rect.unit (s := S3) ![2] S1.size inb_S3_S1_2).toLoadRect (harg9.unread x8) (Shape.Idx.first (numel1_S1.symm ▸ Nat.one_pos)))) :
    (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xo9 xs3 xs4 xs5 xs6 k0_hw1 k0_hw2 k0_hw3 k0_hw4 k0_hw5 k0_hw6).2.2.2.1 = toks arg18 arg19 arg20 (arg18.view.writes (Elt Ideal) (harg18.unread xs4) (Gen.pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0)) (arg16.view.writes (Elt Ideal) arg16.view.junk (kernelRun0_C.sl.HS2_1 c arg1 harg1 arg2 harg2 arg3 harg3 arg14 arg15 x0 x1 x2)) (harg17.unread xs3) (harg18.unread xs4) (harg19.unread xs5) (harg20.unread xs6) (Scf.trips k0_t1_loop.lb k0_t1_loop.ub k0_t1_loop.st)).1) (arg19.view.writes (Elt Ideal) (harg19.unread xs5) (Gen.pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0)) (arg16.view.writes (Elt Ideal) arg16.view.junk (kernelRun0_C.sl.HS2_1 c arg1 harg1 arg2 harg2 arg3 harg3 arg14 arg15 x0 x1 x2)) (harg17.unread xs3) (harg18.unread xs4) (harg19.unread xs5) (harg20.unread xs6) (Scf.trips k0_t1_loop.lb k0_t1_loop.ub k0_t1_loop.st)).2.1) (arg20.view.writes (Elt Ideal) (harg20.unread xs6) (Gen.pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0)) (arg16.view.writes (Elt Ideal) arg16.view.junk (kernelRun0_C.sl.HS2_1 c arg1 harg1 arg2 harg2 arg3 harg3 arg14 arg15 x0 x1 x2)) (harg17.unread xs3) (harg18.unread xs4) (harg19.unread xs5) (harg20.unread xs6) (Scf.trips k0_t1_loop.lb k0_t1_loop.ub k0_t1_loop.st)).2.2) 15 := rfl

/-- The tokens' log probabilities that the last point stores, from the state it leaves. -/
theorem tokens_C (L : List (View.Piece (Elt Ideal) S3x640 .f32)) (xs3 : Vec Ideal S1920x128 .i32) (xs4 : Vec Ideal S1920x128 .f32) (xs5 : Vec Ideal S1920x128 .f32) (xs6 : Vec Ideal S1920x128 .f32) (e : L = toks arg18 arg19 arg20 (arg18.view.writes (Elt Ideal) (harg18.unread xs4) (Gen.pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0)) (arg16.view.writes (Elt Ideal) arg16.view.junk (kernelRun0_C.sl.HS2_1 c arg1 harg1 arg2 harg2 arg3 harg3 arg14 arg15 x0 x1 x2)) (harg17.unread xs3) (harg18.unread xs4) (harg19.unread xs5) (harg20.unread xs6) (Scf.trips k0_t1_loop.lb k0_t1_loop.ub k0_t1_loop.st)).1) (arg19.view.writes (Elt Ideal) (harg19.unread xs5) (Gen.pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0)) (arg16.view.writes (Elt Ideal) arg16.view.junk (kernelRun0_C.sl.HS2_1 c arg1 harg1 arg2 harg2 arg3 harg3 arg14 arg15 x0 x1 x2)) (harg17.unread xs3) (harg18.unread xs4) (harg19.unread xs5) (harg20.unread xs6) (Scf.trips k0_t1_loop.lb k0_t1_loop.ub k0_t1_loop.st)).2.1) (arg20.view.writes (Elt Ideal) (harg20.unread xs6) (Gen.pb_k0_t1 (F := Ideal) Variants.none c none i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 (BitVec.ofNat 32 (i 0)) (arg16.view.writes (Elt Ideal) arg16.view.junk (kernelRun0_C.sl.HS2_1 c arg1 harg1 arg2 harg2 arg3 harg3 arg14 arg15 x0 x1 x2)) (harg17.unread xs3) (harg18.unread xs4) (harg19.unread xs5) (harg20.unread xs6) (Scf.trips k0_t1_loop.lb k0_t1_loop.ub k0_t1_loop.st)).2.2) 15)
    (o : View sig .tc .vmem S3x640 .f32) (f : BufTy.Contents (Elt Ideal) o.ty) (r : Fin 1920) :
    o.read (Elt Ideal) (o.writes (Elt Ideal) f L) (ix2 (tokRow r) (tokCol r))
      = lpOf (fun l => upM (fstLogit x0 x1 x2 r l) (sndLogit x0 x1 x2 r l) (xs4 (ix2 r l)))
          (fun l => upS (fstLogit x0 x1 x2 r l) (sndLogit x0 x1 x2 r l) (xs4 (ix2 r l)) (xs5 (ix2 r l)))
          (fun l => upT (BitVec.ofNat 32 (i 0)) (xs3 (ix2 r l)) l (fstLogit x0 x1 x2 r l) (sndLogit x0 x1 x2 r l) (xs6 (ix2 r l))) := by
  rw [e, toks_read _ _ _ _ _ _ _ _ 15 le_rfl r r.isLt]
  have h := step_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 _ _ _ xs3 xs4 xs5 xs6 ⟨rfl, rfl, rfl⟩ (harg18.unread xs4) (harg19.unread xs5) (harg20.unread xs6) r
  have e1 := funext fun l => (h l).1
  have e2 := funext fun l => (h l).2.1
  have e3 := funext fun l => (h l).2.2
  rw [e1, e2, e3]

end Cert.KernelIdeal.Hand

end
-- ==== Proof.Combine.lean ====
/- The mathematics of the running log-sum-exp: a lane's maximum, sum and target logit after `n` tiles, and the log
   probability that the lanes of a row give together. -/
module

public import proofs.«01_k».proof.Proof.Tokens

@[expose] public section

noncomputable section

namespace Cert.KernelIdeal.Hand

open Idealize.ShloMosaic Cert.KernelIdeal Cert.KernelIdeal.Gen

/-! ## A lane after `n` tiles -/

/-- The running maximum of a lane whose two logits of tile `n` are `a n` and `b n`, -/
def mSeq (a b : ℕ → EReal) : ℕ → EReal
  | 0 => negBig
  | n + 1 => upM (a n) (b n) (mSeq a b n)
/-- its running sum of exponentials, -/
def sSeq (a b : ℕ → EReal) : ℕ → EReal
  | 0 => 0
  | n + 1 => upS (a n) (b n) (mSeq a b n) (sSeq a b n)
/-- and its target logit. -/
def tSeq (a b : ℕ → EReal) (lab : BitVec 32) (l : Fin 128) : ℕ → EReal
  | 0 => 0
  | n + 1 => upT (BitVec.ofNat 32 n) lab l (a n) (b n) (tSeq a b lab l n)

theorem negBig_real : ∃ x : ℝ, negBig = (x : EReal) := by
  have h : negBig = Ideal.ofBits .f32 0xF149F2CA#32 := rfl
  rw [h]
  simp [Ideal.ofBits, Ideal.ieee, -EReal.coe_mul, ← EReal.coe_sub]
  exact ⟨_, rfl⟩

theorem coe_max' (x y : ℝ) : max (x : EReal) (y : EReal) = ((max x y : ℝ) : EReal) := (EReal.coe_strictMono.monotone.map_max).symm

/-- The exponential as a real number. -/
def expR (x : EReal) : ℝ := (Ideal.exp x).toReal

theorem expR_nonneg (x : EReal) : 0 ≤ expR x := by
  unfold expR
  induction x using EReal.rec with
  | bot => simp
  | coe r => rw [Ideal.exp_coe, EReal.toReal_coe]; exact (Real.exp_pos r).le
  | top => simp

/-- The exponential of a number below infinity less a real one. -/
theorem exp_sub_real (x : EReal) (hx : x ≠ ⊤) (t : ℝ) : Ideal.exp (x - (t : EReal)) = ((expR x * Real.exp (-t) : ℝ) : EReal) := by
  unfold expR
  induction x using EReal.rec with
  | bot => rw [EReal.bot_sub, Ideal.exp_bot, EReal.toReal_zero, zero_mul]; rfl
  | coe r => rw [← EReal.coe_sub, Ideal.exp_coe, Ideal.exp_coe, EReal.toReal_coe, ← Real.exp_add, sub_eq_add_neg]
  | top => exact absurd rfl hx

theorem exp_sub_top (x : EReal) : Ideal.exp (x - ⊤) = 0 := by
  rw [sub_eq_add_neg, EReal.neg_top, EReal.add_bot, Ideal.exp_bot]

theorem log_zero : Ideal.log 0 = ⊥ := by
  rw [← EReal.coe_zero, Ideal.log_coe, if_pos le_rfl]

/-- The logarithm of a sum of exponentials does not depend on what is subtracted first. -/
theorem log_shift (S : ℝ) (hS : 0 ≤ S) (t : ℝ) : (t : EReal) + Ideal.log ((S * Real.exp (-t) : ℝ) : EReal) = Ideal.log (S : EReal) := by
  rcases hS.eq_or_lt with h | h
  · subst h
    rw [zero_mul, EReal.coe_zero, log_zero, EReal.add_bot]
  · rw [Ideal.log_coe, Ideal.log_coe, if_neg (not_le.mpr h), if_neg (not_le.mpr (mul_pos h (Real.exp_pos _))),
      Real.log_mul h.ne' (Real.exp_pos _).ne', Real.log_exp, ← EReal.coe_add]
    congr 1
    ring

/-- The maximum stays real as long as no logit is infinity, -/
theorem mSeq_real (a b : ℕ → EReal) (n : ℕ) (h : ∀ j < n, a j ≠ ⊤ ∧ b j ≠ ⊤) : ∃ x : ℝ, mSeq a b n = (x : EReal) := by
  induction n with
  | zero => exact negBig_real
  | succ n ih =>
    obtain ⟨x, hx⟩ := ih fun j hj => h j (by omega)
    obtain ⟨ha, hb⟩ := h n (by omega)
    have h1 : mSeq a b (n + 1) ≠ ⊤ := by
      unfold mSeq upM
      rw [hx]
      exact fun e => by
        rcases max_eq_top.mp e with e | e
        · exact EReal.coe_ne_top x e
        · exact (max_eq_top.mp e).elim ha hb
    have h2 : mSeq a b (n + 1) ≠ ⊥ := by
      unfold mSeq upM
      rw [hx]
      exact fun e => EReal.coe_ne_bot x (le_bot_iff.mp (e ▸ le_max_left _ _))
    exact ⟨_, (EReal.coe_toReal h1 h2).symm⟩
/-- and is infinity from then on. -/
theorem mSeq_top (a b : ℕ → EReal) (n : ℕ) (j : ℕ) (hj : j < n) (h : a j = ⊤ ∨ b j = ⊤) : mSeq a b n = ⊤ := by
  induction n with
  | zero => omega
  | succ n ih =>
    unfold mSeq upM
    rcases Nat.lt_succ_iff_lt_or_eq.mp hj with e | e
    · rw [ih e]; exact max_eq_top.mpr (Or.inl rfl)
    · subst e
      exact max_eq_top.mpr (Or.inr (max_eq_top.mpr h))

/-- The sum is that of the exponentials of the logits so far, less the maximum. -/
theorem sSeq_eq (a b : ℕ → EReal) (n : ℕ) (h : ∀ j < n, a j ≠ ⊤ ∧ b j ≠ ⊤) (x : ℝ) (hx : mSeq a b n = (x : EReal)) :
    sSeq a b n = (((∑ j ∈ Finset.range n, (expR (a j) + expR (b j))) * Real.exp (-x) : ℝ) : EReal) := by
  induction n generalizing x with
  | zero => simp [sSeq]
  | succ n ih =>
    have h' : ∀ j < n, a j ≠ ⊤ ∧ b j ≠ ⊤ := fun j hj => h j (by omega)
    obtain ⟨y, hy⟩ := mSeq_real a b n h'
    have hs := ih h' y hy
    have hx' : upM (a n) (b n) (y : EReal) = (x : EReal) := by rw [← hy]; exact hx
    unfold sSeq upS
    rw [hs, hy, hx', exp_sub_real _ (h n (by omega)).1, exp_sub_real _ (h n (by omega)).2]
    simp only [← EReal.coe_sub, Ideal.exp_coe, ← EReal.coe_mul, ← EReal.coe_add]
    congr 1
    have e : Real.exp (-y) * Real.exp (y - x) = Real.exp (-x) := by rw [← Real.exp_add]; ring_nf
    rw [Finset.sum_range_succ, mul_assoc, e]
    ring

/-- A label stands at position `y` of tile `n0`: the lane it falls in keeps that position's logit. -/
theorem tSeq_eq (a b : ℕ → EReal) (lab : BitVec 32) (l : Fin 128) (n0 : ℕ) (y : ℕ) (hn0 : n0 < 125) (hy : y < 256) (hl : lab.toNat = 256 * n0 + y) (n : ℕ) (hn : n ≤ 125) :
    tSeq a b lab l n = if n0 < n then (if y = l.val then a n0 else if y = 128 + l.val then b n0 else 0) else 0 := by
  induction n with
  | zero => simp [tSeq]
  | succ n ih =>
    have hl128 := l.isLt
    have hsub : (lab - BitVec.ofNat 32 n * 256#32 = BitVec.ofNat 32 l.val) ↔ (n = n0 ∧ y = l.val) := by
      rw [← BitVec.toNat_inj]
      simp only [BitVec.toNat_sub, BitVec.toNat_mul, BitVec.toNat_ofNat, hl]
      omega
    have hsub' : (lab - BitVec.ofNat 32 n * 256#32 = BitVec.ofNat 32 l.val + 128#32) ↔ (n = n0 ∧ y = 128 + l.val) := by
      rw [← BitVec.toNat_inj]
      simp only [BitVec.toNat_sub, BitVec.toNat_mul, BitVec.toNat_ofNat, BitVec.toNat_add, hl]
      omega
    unfold tSeq upT
    rw [ih (by omega)]
    simp only [hsub, hsub']
    by_cases e : n = n0
    · subst e; simp
    · have : (n0 < n + 1) ↔ n0 < n := by omega
      simp [e, this]

/-! ## A row's lanes together -/

theorem fold_max_real {ι : Type} (f : ι → ℝ) (s : Finset ι) (hs : s.Nonempty) : ∃ x : ℝ, Finset.fold max (⊥ : EReal) (fun i => (f i : EReal)) s = (x : EReal) := by
  classical
  induction hs using Finset.Nonempty.cons_induction with
  | singleton a => exact ⟨f a, by simp⟩
  | cons a s h hs ih =>
    obtain ⟨x, hx⟩ := ih
    exact ⟨max (f a) x, by rw [Finset.fold_cons, hx, coe_max']⟩

theorem ofBits_negInf : Ideal.ofBits FTy.f32 4286578688#32 = (⊥ : EReal) := by
  simp [Ideal.ofBits, Ideal.ieee]

theorem coe_sum' {ι : Type} (s : Finset ι) (f : ι → ℝ) : (∑ i ∈ s, (f i : EReal)) = ((∑ i ∈ s, f i : ℝ) : EReal) := by
  classical
  induction s using Finset.induction_on with
  | empty => simp
  | insert a s h ih => rw [Finset.sum_insert h, Finset.sum_insert h, ih, EReal.coe_add]

/-- The lane that a label falls in holds the target's logit, the others hold zero. -/
theorem sum_target (a b : Fin 128 → ℕ → EReal) (lab : BitVec 32) (n0 y : ℕ) (hn0 : n0 < 125) (hy : y < 256) (hl : lab.toNat = 256 * n0 + y) (tgt : EReal)
    (ht : ∀ l : Fin 128, (y = l.val → a l n0 = tgt) ∧ (y = 128 + l.val → b l n0 = tgt)) :
    ∑ l : Fin 128, tSeq (a l) (b l) lab l 125 = tgt := by
  have hT : ∀ l : Fin 128, tSeq (a l) (b l) lab l 125 = if l = (⟨y % 128, Nat.mod_lt _ (by norm_num)⟩ : Fin 128) then tgt else 0 := by
    intro l
    have hl128 := l.isLt
    rw [tSeq_eq _ _ lab l n0 y hn0 hy hl 125 le_rfl, if_pos hn0]
    by_cases e1 : y = l.val
    · rw [if_pos e1, (ht l).1 e1, if_pos (Fin.ext (by show l.val = y % 128; omega))]
    · rw [if_neg e1]
      by_cases e2 : y = 128 + l.val
      · rw [if_pos e2, (ht l).2 e2, if_pos (Fin.ext (by show l.val = y % 128; omega))]
      · rw [if_neg e2, if_neg]
        intro h
        have : l.val = y % 128 := congrArg Fin.val h
        omega
  rw [Finset.sum_congr rfl fun l _ => hT l, Finset.sum_ite_eq' Finset.univ]
  simp

/-- What the lanes of a row subtract from its target's logit: the logarithm of the sum of the exponentials
    of all its logits, if none of them is infinity, -/
theorem lse_lanes (a b : Fin 128 → ℕ → EReal) (h : ∀ l, ∀ j < 125, a l j ≠ ⊤ ∧ b l j ≠ ⊤) :
    topOf (fun l => mSeq (a l) (b l) 125) + Ideal.log (∑ l, sSeq (a l) (b l) 125 * Ideal.exp (mSeq (a l) (b l) 125 - topOf (fun l => mSeq (a l) (b l) 125)))
      = Ideal.log ((∑ l : Fin 128, ∑ j ∈ Finset.range 125, (expR (a l j) + expR (b l j)) : ℝ) : EReal) := by
  choose M hM using fun l => mSeq_real (a l) (b l) 125 (h l)
  have hS := fun l => sSeq_eq (a l) (b l) 125 (h l) (M l) (hM l)
  obtain ⟨top, htop⟩ := fold_max_real M Finset.univ Finset.univ_nonempty
  have htopOf : topOf (fun l => mSeq (a l) (b l) 125) = (top : EReal) := by
    unfold topOf
    rw [ofBits_negInf]
    simp only [hM]
    exact htop
  rw [htopOf, ← log_shift _ (Finset.sum_nonneg fun l _ => Finset.sum_nonneg fun j _ => add_nonneg (expR_nonneg _) (expR_nonneg _)) top]
  simp only [hM, hS, ← EReal.coe_sub, Ideal.exp_coe, ← EReal.coe_mul, coe_sum']
  congr 3
  rw [Finset.sum_mul]
  refine Finset.sum_congr rfl fun l _ => ?_
  rw [mul_assoc, ← Real.exp_add]
  ring_nf

/-- and minus infinity if one is. -/
theorem lse_lanes_top (a b : Fin 128 → ℕ → EReal) (h : ∃ l, ∃ j < 125, a l j = ⊤ ∨ b l j = ⊤) :
    topOf (fun l => mSeq (a l) (b l) 125) + Ideal.log (∑ l, sSeq (a l) (b l) 125 * Ideal.exp (mSeq (a l) (b l) 125 - topOf (fun l => mSeq (a l) (b l) 125)))
      = ⊥ := by
  obtain ⟨l, j, hj, e⟩ := h
  have htop : topOf (fun l => mSeq (a l) (b l) 125) = ⊤ := by
    unfold topOf
    exact top_le_iff.mp (Finset.le_fold_max _ |>.mpr (Or.inr ⟨l, Finset.mem_univ _, (mSeq_top (a l) (b l) 125 j hj e).ge⟩))
  rw [htop]
  simp only [exp_sub_top, mul_zero, Finset.sum_const_zero, log_zero, EReal.add_bot]

end Cert.KernelIdeal.Hand

end
-- ==== Proof.LastPoint.lean ====
/- The last point's run, with what it leaves: the state one tile further, and the tokens' log probabilities. -/
module

public import proofs.«01_k».proof.Proof.Tokens

@[expose] public section

set_option maxRecDepth 65536

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

variable (c : Dev nD) (i : grid0.Coords) (arg1 : Memref sig .tc .vmem S1920x6144 .bf16) (harg1 : arg1.IsWhole) (arg2 : Memref sig .tc .vmem S256x3072 .i8) (harg2 : arg2.IsWhole) (arg3 : Memref sig .tc .vmem S96x256 .f32) (harg3 : arg3.IsWhole) (arg4 : Memref sig .tc .vmem S3x640 .i32) (harg4 : arg4.IsWhole) (arg5 : Memref sig .tc .vmem S3x640 .i32) (harg5 : arg5.IsWhole) (arg6 : Memref sig .tc .vmem S3x640 .i32) (harg6 : arg6.IsWhole) (arg7 : Memref sig .tc .smem S6 .f32) (harg7 : arg7.IsWhole) (arg8 : Memref sig .tc .smem S3 .i32) (harg8 : arg8.IsWhole) (arg9 : Memref sig .tc .smem S3 .i32) (harg9 : arg9.IsWhole) (arg10 : Memref sig .tc .smem S6 .f32) (harg10 : arg10.IsWhole) (arg11 : Memref sig .tc .smem S3 .f32) (harg11 : arg11.IsWhole) (arg12 : Memref sig .tc .smem S3 .f32) (harg12 : arg12.IsWhole) (arg13 : Memref sig .tc .vmem S3x640 .f32) (harg13 : arg13.IsWhole) (arg14 : Memref sig .tc .vmem S96x2x256 .bf16) (harg14 : arg14.IsWhole) (arg15 : Memref sig .tc .vmem S6144x256 .bf16) (harg15 : arg15.IsWhole) (arg16 : Memref sig .tc .vmem S1920x256 .f32) (harg16 : arg16.IsWhole) (arg17 : Memref sig .tc .vmem S1920x128 .i32) (harg17 : arg17.IsWhole) (arg18 : Memref sig .tc .vmem S1920x128 .f32) (harg18 : arg18.IsWhole) (arg19 : Memref sig .tc .vmem S1920x128 .f32) (harg19 : arg19.IsWhole) (arg20 : Memref sig .tc .vmem S1920x128 .f32) (harg20 : arg20.IsWhole) (x0 : Vec Ideal S1920x6144 .bf16) (x1 : Vec Ideal S256x3072 .i8) (x2 : Vec Ideal S96x256 .f32) (x3 : Vec Ideal S3x640 .i32) (x4 : Vec Ideal S3x640 .i32) (x5 : Vec Ideal S3x640 .i32) (x6 : Vec Ideal S6 .f32) (x7 : Vec Ideal S3 .i32) (x8 : Vec Ideal S3 .i32)

set_option maxHeartbeats 4000000 in
theorem lastRun (hc0 : ¬cond0_0 i) (hc1 : cond0_1 i) (xo9 : Vec Ideal S6 .f32) (xs3 : Vec Ideal S1920x128 .i32) (xs4 : Vec Ideal S1920x128 .f32) (xs5 : Vec Ideal S1920x128 .f32) (xs6 : Vec Ideal S1920x128 .f32) (k0_hw1 : k0_chk1 i (arg8.view.readAt (Elt Ideal) (Rect.unit (s := S3) ![0] S1.size inb_S3_S1_0).toLoadRect (harg8.unread x7) (Shape.Idx.first (numel1_S1.symm ▸ Nat.one_pos)))) (k0_hw2 : k0_chk2 i (arg9.view.readAt (Elt Ideal) (Rect.unit (s := S3) ![0] S1.size inb_S3_S1_0).toLoadRect (harg9.unread x8) (Shape.Idx.first (numel1_S1.symm ▸ Nat.one_pos)))) (k0_hw3 : k0_chk3 i (arg8.view.readAt (Elt Ideal) (Rect.unit (s := S3) ![1] S1.size inb_S3_S1_1).toLoadRect (harg8.unread x7) (Shape.Idx.first (numel1_S1.symm ▸ Nat.one_pos)))) (k0_hw4 : k0_chk4 i (arg9.view.readAt (Elt Ideal) (Rect.unit (s := S3) ![1] S1.size inb_S3_S1_1).toLoadRect (harg9.unread x8) (Shape.Idx.first (numel1_S1.symm ▸ Nat.one_pos)))) (k0_hw5 : k0_chk5 i (arg8.view.readAt (Elt Ideal) (Rect.unit (s := S3) ![2] S1.size inb_S3_S1_2).toLoadRect (harg8.unread x7) (Shape.Idx.first (numel1_S1.symm ▸ Nat.one_pos)))) (k0_hw6 : k0_chk6 i (arg9.view.readAt (Elt Ideal) (Rect.unit (s := S3) ![2] S1.size inb_S3_S1_2).toLoadRect (harg9.unread x8) (Shape.Idx.first (numel1_S1.symm ▸ Nat.one_pos)))) :
    ∃ (L9 : List (View.Piece (Elt Ideal) S6 .f32)) (L10 L11 : List (View.Piece (Elt Ideal) S3 .f32)) (L12 : List (View.Piece (Elt Ideal) S3x640 .f32)) (LS4 LS5 LS6 : List (View.Piece (Elt Ideal) S1920x128 .f32)),
      (∀ (f : BufTy.Contents (Elt Ideal) arg13.view.ty) (r : Fin 1920), arg13.view.read (Elt Ideal) (arg13.view.writes (Elt Ideal) f L12) (ix2 (tokRow r) (tokCol r))
        = lpOf (fun l => upM (fstLogit x0 x1 x2 r l) (sndLogit x0 x1 x2 r l) (xs4 (ix2 r l)))
          (fun l => upS (fstLogit x0 x1 x2 r l) (sndLogit x0 x1 x2 r l) (xs4 (ix2 r l)) (xs5 (ix2 r l)))
          (fun l => upT (BitVec.ofNat 32 (i 0).val) (xs3 (ix2 r l)) l (fstLogit x0 x1 x2 r l) (sndLogit x0 x1 x2 r l) (xs6 (ix2 r l))))
      ∧ (∀ (f18 : BufTy.Contents (Elt Ideal) arg18.view.ty) (f19 : BufTy.Contents (Elt Ideal) arg19.view.ty) (f20 : BufTy.Contents (Elt Ideal) arg20.view.ty) (r : Fin 1920) (l : Fin 128),
        arg18.view.read (Elt Ideal) (arg18.view.writes (Elt Ideal) f18 LS4) (ix2 r l) = upM (fstLogit x0 x1 x2 r l) (sndLogit x0 x1 x2 r l) (xs4 (ix2 r l))
        ∧ arg19.view.read (Elt Ideal) (arg19.view.writes (Elt Ideal) f19 LS5) (ix2 r l) = upS (fstLogit x0 x1 x2 r l) (sndLogit x0 x1 x2 r l) (xs4 (ix2 r l)) (xs5 (ix2 r l))
        ∧ arg20.view.read (Elt Ideal) (arg20.view.writes (Elt Ideal) f20 LS6) (ix2 r l) = upT (BitVec.ofNat 32 (i 0).val) (xs3 (ix2 r l)) l (fstLogit x0 x1 x2 r l) (sndLogit x0 x1 x2 r l) (xs6 (ix2 r l)))
      ∧ ∀ (E : Set ℕ) (K : PUnit → sProp 𝕄),
        iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ owns (c : Thread nD τ) arg10 fullShare xo9 ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs3 ∗ owns (c : Thread nD τ) arg18 fullShare xs4 ∗ owns (c : Thread nD τ) arg19 fullShare xs5 ∗ owns (c : Thread nD τ) arg20 fullShare xs6
            ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare x7 ∗ owns (c : Thread nD τ) arg9 fullShare x8 ∗ (∃ f, arg10.view.loc (c : Thread nD τ) ↦[arg10.view.set]{fullShare} arg10.view.writes (Elt Ideal) f L9) ∗ (∃ f, arg11.view.loc (c : Thread nD τ) ↦[arg11.view.set]{fullShare} arg11.view.writes (Elt Ideal) f L10) ∗ (∃ f, arg12.view.loc (c : Thread nD τ) ↦[arg12.view.set]{fullShare} arg12.view.writes (Elt Ideal) f L11) ∗ (∃ f, arg13.view.loc (c : Thread nD τ) ↦[arg13.view.set]{fullShare} arg13.view.writes (Elt Ideal) f L12) ∗ (∃ d, owns (c : Thread nD τ) arg14 fullShare d) ∗ (∃ d, owns (c : Thread nD τ) arg15 fullShare d) ∗ (∃ d, owns (c : Thread nD τ) arg16 fullShare d) ∗ owns (c : Thread nD τ) arg17 fullShare xs3 ∗ (∃ f, arg18.view.loc (c : Thread nD τ) ↦[arg18.view.set]{fullShare} arg18.view.writes (Elt Ideal) f LS4) ∗ (∃ f, arg19.view.loc (c : Thread nD τ) ↦[arg19.view.set]{fullShare} arg19.view.writes (Elt Ideal) f LS5) ∗ (∃ f, arg20.view.loc (c : Thread nD τ) ↦[arg20.view.set]{fullShare} arg20.view.writes (Elt Ideal) f LS6)) -∗ K ⟨⟩))
          ⊢ wp frame (wpE (defs₀ (F := Ideal)) Variants.none c none) E (cc0_dpo_logps i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  refine ⟨(kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xo9 xs3 xs4 xs5 xs6 k0_hw1 k0_hw2 k0_hw3 k0_hw4 k0_hw5 k0_hw6).1, (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xo9 xs3 xs4 xs5 xs6 k0_hw1 k0_hw2 k0_hw3 k0_hw4 k0_hw5 k0_hw6).2.1, (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xo9 xs3 xs4 xs5 xs6 k0_hw1 k0_hw2 k0_hw3 k0_hw4 k0_hw5 k0_hw6).2.2.1, (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xo9 xs3 xs4 xs5 xs6 k0_hw1 k0_hw2 k0_hw3 k0_hw4 k0_hw5 k0_hw6).2.2.2.1, (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xo9 xs3 xs4 xs5 xs6 k0_hw1 k0_hw2 k0_hw3 k0_hw4 k0_hw5 k0_hw6).2.2.2.2.2.1, (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xo9 xs3 xs4 xs5 xs6 k0_hw1 k0_hw2 k0_hw3 k0_hw4 k0_hw5 k0_hw6).2.2.2.2.2.2.1, (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xo9 xs3 xs4 xs5 xs6 k0_hw1 k0_hw2 k0_hw3 k0_hw4 k0_hw5 k0_hw6).2.2.2.2.2.2.2.1, ?_, ?_, (kernelRun0_C (F := Ideal) c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 hc0 hc1 x0 x1 x2 x3 x4 x5 x6 x7 x8 xo9 xs3 xs4 xs5 xs6 k0_hw1 k0_hw2 k0_hw3 k0_hw4 k0_hw5 k0_hw6).2.2.2.2.2.2.2.2⟩
  · intro f r
    exact tokens_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 _ xs3 xs4 xs5 xs6 (tokPieces_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 hc0 hc1 xo9 xs3 xs4 xs5 xs6 k0_hw1 k0_hw2 k0_hw3 k0_hw4 k0_hw5 k0_hw6) arg13.view f r
  · intro f18 f19 f20 r l
    exact step_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 _ _ _ xs3 xs4 xs5 xs6 (pieces_C c i arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 x0 x1 x2 x3 x4 x5 x6 x7 x8 hc0 hc1 xo9 xs3 xs4 xs5 xs6 k0_hw1 k0_hw2 k0_hw3 k0_hw4 k0_hw5 k0_hw6) f18 f19 f20 r l

end Cert.KernelIdeal.Hand

end
-- ==== Proof.ValueRun.lean ====
/- The launch's run with what it computes: between points the carried scratch holds the state after the tiles so far, and
   at the last point the outputs' buffers hold the results. -/
module

public import proofs.«01_k».proof.Proof.Combine
public import proofs.«01_k».proof.Proof.LastPoint

@[expose] public section

set_option maxRecDepth 65536

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

/-! ## The state after `n` tiles -/

variable (m : (ℓ : Loc nD τ sig) → Buf (Elt Ideal) ℓ) (ρ : Dev nD → PrngReg)

/-- The two logits of a row in a lane at tile `n`. -/
def aL (c : Dev nD) (r : Fin 1920) (l : Fin 128) (n : ℕ) : EReal :=
  if h : n < cfg0.N then fstLogit (iblk m c 0 ⟨n, h⟩) (iblk m c 1 ⟨n, h⟩) (iblk m c 2 ⟨n, h⟩) r l else 0
def bL (c : Dev nD) (r : Fin 1920) (l : Fin 128) (n : ℕ) : EReal :=
  if h : n < cfg0.N then sndLogit (iblk m c 0 ⟨n, h⟩) (iblk m c 1 ⟨n, h⟩) (iblk m c 2 ⟨n, h⟩) r l else 0

theorem aL_val (c : Dev nD) (r : Fin 1920) (l : Fin 128) (t : Fin cfg0.N) : aL m c r l t.val = fstLogit (iblk m c 0 t) (iblk m c 1 t) (iblk m c 2 t) r l := dif_pos t.isLt
theorem bL_val (c : Dev nD) (r : Fin 1920) (l : Fin 128) (t : Fin cfg0.N) : bL m c r l t.val = sndLogit (iblk m c 0 t) (iblk m c 1 t) (iblk m c 2 t) r l := dif_pos t.isLt

theorem N_pos : 0 < cfg0.N := lt_of_lt_of_eq (by norm_num) (show cfg0.N = 125 from N_0).symm

/-- A row's label, its column put in the tile's order. -/
def labL (c : Dev nD) (r : Fin 1920) : BitVec 32 := permLab ((iblk m c 3 ⟨0, N_pos⟩ : Vec Ideal S3x640 .i32) (ix2 (tokRow r) (tokCol r)))

def mAt (c : Dev nD) (n : ℕ) (r : Fin 1920) (l : Fin 128) : EReal := mSeq (aL m c r l) (bL m c r l) n
def sAt (c : Dev nD) (n : ℕ) (r : Fin 1920) (l : Fin 128) : EReal := sSeq (aL m c r l) (bL m c r l) n
def tAt (c : Dev nD) (n : ℕ) (r : Fin 1920) (l : Fin 128) : EReal := tSeq (aL m c r l) (bL m c r l) (labL m c r) l n

/-- The carried scratch holds the labels and the state after `n` tiles, once a tile has been seen. -/
def StateOk (c : Dev nD) (n : ℕ) (d3 : Vec Ideal S1920x128 .i32) (d4 d5 d6 : Vec Ideal S1920x128 .f32) : Prop :=
  0 < n → ∀ (r : Fin 1920) (l : Fin 128), d3 (ix2 r l) = labL m c r ∧ d4 (ix2 r l) = mAt m c n r l ∧ d5 (ix2 r l) = sAt m c n r l ∧ d6 (ix2 r l) = tAt m c n r l

/-- A token's log probability, from the state after all tiles. -/
def tokAt (c : Dev nD) (r : Fin 1920) : EReal := lpOf (fun l => mAt m c 125 r l) (fun l => sAt m c 125 r l) (fun l => tAt m c 125 r l)

/-- What the last point leaves in the outputs' buffers. -/
def outRel9 (m : (ℓ : Loc nD τ sig) → Buf (Elt Ideal) ℓ) (c : Dev nD) (t : Fin cfg0.N) (X : Vec Ideal S6 .f32) : Prop := True
def outRel10 (m : (ℓ : Loc nD τ sig) → Buf (Elt Ideal) ℓ) (c : Dev nD) (t : Fin cfg0.N) (X : Vec Ideal S3 .f32) : Prop := True
def outRel11 (m : (ℓ : Loc nD τ sig) → Buf (Elt Ideal) ℓ) (c : Dev nD) (t : Fin cfg0.N) (X : Vec Ideal S3 .f32) : Prop := True
def outRel12 (c : Dev nD) (t : Fin cfg0.N) (X : Vec Ideal S3x640 .f32) : Prop :=
  t.val = 124 → ∀ r : Fin 1920, X (ix2 (tokRow r) (tokCol r)) = tokAt m c r

theorem coord_val (t : Fin cfg0.N) : (grid0.coords t 0).val = t.val := by
  have ht : t.val < 125 := Nat.lt_of_lt_of_eq t.isLt N_0
  have e0 : (grid0.coords t 0).val = t.val / 1 % 125 := Pipeline.Grid.coords_val t 0 (by decide) rfl
  rw [e0]; omega

/-- One more tile. -/
theorem mAt_succ (c : Dev nD) (t : Fin cfg0.N) (r : Fin 1920) (l : Fin 128) : mAt m c (t.val + 1) r l
    = upM (fstLogit (iblk m c 0 t) (iblk m c 1 t) (iblk m c 2 t) r l) (sndLogit (iblk m c 0 t) (iblk m c 1 t) (iblk m c 2 t) r l) (mAt m c t.val r l) := by
  rw [← aL_val, ← bL_val]; rfl
theorem sAt_succ (c : Dev nD) (t : Fin cfg0.N) (r : Fin 1920) (l : Fin 128) : sAt m c (t.val + 1) r l
    = upS (fstLogit (iblk m c 0 t) (iblk m c 1 t) (iblk m c 2 t) r l) (sndLogit (iblk m c 0 t) (iblk m c 1 t) (iblk m c 2 t) r l) (mAt m c t.val r l) (sAt m c t.val r l) := by
  rw [← aL_val, ← bL_val]; rfl
theorem tAt_succ (c : Dev nD) (t : Fin cfg0.N) (r : Fin 1920) (l : Fin 128) : tAt m c (t.val + 1) r l
    = upT (BitVec.ofNat 32 (grid0.coords t 0).val) (labL m c r) l (fstLogit (iblk m c 0 t) (iblk m c 1 t) (iblk m c 2 t) r l) (sndLogit (iblk m c 0 t) (iblk m c 1 t) (iblk m c 2 t) r l) (tAt m c t.val r l) := by
  rw [← aL_val, ← bL_val, coord_val]; rfl

/-- The last tile's state gives the tokens' log probabilities. -/
theorem tok_last (c : Dev nD) (t : Fin cfg0.N) (h1 : t.val = 124) (d3 : Vec Ideal S1920x128 .i32) (d4 d5 d6 : Vec Ideal S1920x128 .f32) (hS : StateOk m c t.val d3 d4 d5 d6) (r : Fin 1920) :
    lpOf (fun l => upM (fstLogit (iblk m c 0 t) (iblk m c 1 t) (iblk m c 2 t) r l) (sndLogit (iblk m c 0 t) (iblk m c 1 t) (iblk m c 2 t) r l) (d4 (ix2 r l)))
      (fun l => upS (fstLogit (iblk m c 0 t) (iblk m c 1 t) (iblk m c 2 t) r l) (sndLogit (iblk m c 0 t) (iblk m c 1 t) (iblk m c 2 t) r l) (d4 (ix2 r l)) (d5 (ix2 r l)))
      (fun l => upT (BitVec.ofNat 32 (grid0.coords t 0).val) (d3 (ix2 r l)) l (fstLogit (iblk m c 0 t) (iblk m c 1 t) (iblk m c 2 t) r l) (sndLogit (iblk m c 0 t) (iblk m c 1 t) (iblk m c 2 t) r l) (d6 (ix2 r l)))
    = tokAt m c r := by
  have hS := hS (by omega) r
  have e : tokAt m c r = lpOf (fun l => mAt m c (t.val + 1) r l) (fun l => sAt m c (t.val + 1) r l) (fun l => tAt m c (t.val + 1) r l) := by
    rw [h1]; rfl
  rw [e]
  congr 1
  · funext l; rw [mAt_succ, (hS l).2.1]
  · funext l; rw [sAt_succ, (hS l).2.1, (hS l).2.2.1]
  · funext l; rw [tAt_succ, (hS l).1, (hS l).2.2.2]

/-- A buffer with pieces written is held at what it reads. -/
theorem owns_writes (c : Dev nD) {sp : Space} {s : Shape} {e : EltTy} (a : Memref sig .tc sp s e) (f : BufTy.Contents (Elt Ideal) a.view.ty) (L : List (View.Piece (Elt Ideal) s e)) :
    (iprop(a.view.loc (c : Thread nD τ) ↦[a.view.set]{fullShare} a.view.writes (Elt Ideal) f L) : sProp 𝕄)
      ⊢ owns (c : Thread nD τ) a fullShare (a.view.read (Elt Ideal) (a.view.writes (Elt Ideal) f L)) := by
  unfold owns
  iintro H
  iexists _
  isplitr; swap; · iexact H
  ipureintro; rfl

set_option maxHeartbeats 4000000 in
theorem valRun_A (c : Dev nD) (t : Fin cfg0.N) (y9 : Vec Ideal S6 .f32) (d3 : Vec Ideal S1920x128 .i32) (d4 d5 d6 : Vec Ideal S1920x128 .f32) (hS : StateOk m c t.val d3 d4 d5 d6)
    (hc0 : cond0_0 (grid0.coords t)) (hc1 : ¬cond0_1 (grid0.coords t)) (h0 : t.val = 0) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare y9 ∗ (∃ d, owns (c : Thread nD τ) (ms0_10 t) fullShare d) ∗ (∃ d, owns (c : Thread nD τ) (ms0_11 t) fullShare d) ∗ (∃ d, owns (c : Thread nD τ) (ms0_12 t) fullShare d) ∗ (∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare d3 ∗ owns (c : Thread nD τ) scM0_4 fullShare d4 ∗ owns (c : Thread nD τ) scM0_5 fullShare d5 ∗ owns (c : Thread nD τ) scM0_6 fullShare d6 ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ (∃ d, ⌜outRel9 m c t d⌝ ∗ owns (c : Thread nD τ) (ms0_9 t) fullShare d) ∗ (∃ d, ⌜outRel10 m c t d⌝ ∗ owns (c : Thread nD τ) (ms0_10 t) fullShare d) ∗ (∃ d, ⌜outRel11 m c t d⌝ ∗ owns (c : Thread nD τ) (ms0_11 t) fullShare d) ∗ (∃ d, ⌜outRel12 m c t d⌝ ∗ owns (c : Thread nD τ) (ms0_12 t) fullShare d) ∗ (∃ d, owns (c : Thread nD τ) scM0_0 fullShare d) ∗ (∃ d, owns (c : Thread nD τ) scM0_1 fullShare d) ∗ (∃ d, owns (c : Thread nD τ) scM0_2 fullShare d) ∗ (∃ d3 d4 d5 d6, ⌜StateOk m c (t.val + 1) d3 d4 d5 d6⌝ ∗ owns (c : Thread nD τ) scM0_3 fullShare d3 ∗ owns (c : Thread nD τ) scM0_4 fullShare d4 ∗ owns (c : Thread nD τ) scM0_5 fullShare d5 ∗ owns (c : Thread nD τ) scM0_6 fullShare d6)) -∗ K ⟨⟩))
    ⊢ wp frame (wpE (defs₀ (F := Ideal)) Variants.none c none) Set.univ (bodyAt0 t) K := by
  unfold bodyAt0
  refine BIBase.Entails.trans ?_ ((kernelRun0_A (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 (iblk m c 0 t) (iblk m c 1 t) (iblk m c 2 t) (iblk m c 3 t) (iblk m c 4 t) (iblk m c 5 t) (iblk m c 6 t) (iblk m c 7 t) (iblk m c 8 t) ).2.2.2.2 Set.univ K)
  iintro ⟨H0, H1, H2, H3, H4, H5, H6, H7, H8, H9, H10, H11, H12, HS0, HS1, HS2, HS3, HS4, HS5, HS6, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexists _; iexact HS3
  isplitl [HS4]; · iexists _; iexact HS4
  isplitl [HS5]; · iexists _; iexact HS5
  isplitl [HS6]; · iexists _; iexact HS6
  iintro ⟨H0, H1, H2, H3, H4, H5, H6, H7, H8, ⟨%f9, H9⟩, ⟨%f10, H10⟩, ⟨%f11, H11⟩, ⟨%f12, H12⟩, HS0, HS1, HS2, ⟨%f17, HS3⟩, ⟨%f18, HS4⟩, ⟨%f19, HS5⟩, ⟨%f20, HS6⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr; swap; · iexact H9
    ipureintro; trivial
  isplitl [H10]
  · iexists _; isplitr; swap; · iexact H10
    ipureintro; trivial
  isplitl [H11]
  · iexists _; isplitr; swap; · iexact H11
    ipureintro; trivial
  isplitl [H12]
  · iexists _; isplitr; swap; · iexact H12
    ipureintro; intro h; omega
  isplitl [HS0]; · iexact HS0
  isplitl [HS1]; · iexact HS1
  isplitl [HS2]; · iexact HS2
  iexists _, _, _, _; isplitr; swap
  · isplitl [HS3]; · iapply (owns_writes c); iexact HS3
    isplitl [HS4]; · iapply (owns_writes c); iexact HS4
    isplitl [HS5]; · iapply (owns_writes c); iexact HS5
    iapply (owns_writes c); iexact HS6
  ipureintro
  intro _ r l
  have h := step_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) _ _ _ (pieces_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) hc0 hc1 ) f18 f19 f20 r l
  have hz : t = ⟨0, N_pos⟩ := Fin.ext h0
  have e3 : labL m c r = permLab ((iblk m c 3 t : Vec Ideal S3x640 .i32) (ix2 (tokRow r) (tokCol r))) := by rw [hz]; rfl
  have em : mAt m c t.val r l = negBig := by rw [h0]; rfl
  have es : sAt m c t.val r l = 0 := by rw [h0]; rfl
  have et : tAt m c t.val r l = 0 := by rw [h0]; rfl
  refine ⟨?_, ?_, ?_, ?_⟩
  · rw [e3]
    refine (congrArg (fun L => scM0_3.view.read (Elt Ideal) (scM0_3.view.writes (Elt Ideal) f17 L) (ix2 r l)) (labPieces_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) hc0 hc1 )).trans ?_
    refine (labs_read _ _ _ _ 15 le_rfl r l r.isLt).trans ?_
    rw [Memref.IsWhole.read_unread]
  · rw [mAt_succ, em]; exact h.1
  · rw [sAt_succ, em, es]; exact h.2.1
  · rw [tAt_succ, et, e3]; exact h.2.2

set_option maxHeartbeats 4000000 in
theorem valRun_B (c : Dev nD) (t : Fin cfg0.N) (y9 : Vec Ideal S6 .f32) (d3 : Vec Ideal S1920x128 .i32) (d4 d5 d6 : Vec Ideal S1920x128 .f32) (hS : StateOk m c t.val d3 d4 d5 d6)
    (hc0 : ¬cond0_0 (grid0.coords t)) (hc1 : ¬cond0_1 (grid0.coords t)) (h0 : 0 < t.val) (h1 : t.val ≠ 124) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare y9 ∗ (∃ d, owns (c : Thread nD τ) (ms0_10 t) fullShare d) ∗ (∃ d, owns (c : Thread nD τ) (ms0_11 t) fullShare d) ∗ (∃ d, owns (c : Thread nD τ) (ms0_12 t) fullShare d) ∗ (∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare d3 ∗ owns (c : Thread nD τ) scM0_4 fullShare d4 ∗ owns (c : Thread nD τ) scM0_5 fullShare d5 ∗ owns (c : Thread nD τ) scM0_6 fullShare d6 ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ (∃ d, ⌜outRel9 m c t d⌝ ∗ owns (c : Thread nD τ) (ms0_9 t) fullShare d) ∗ (∃ d, ⌜outRel10 m c t d⌝ ∗ owns (c : Thread nD τ) (ms0_10 t) fullShare d) ∗ (∃ d, ⌜outRel11 m c t d⌝ ∗ owns (c : Thread nD τ) (ms0_11 t) fullShare d) ∗ (∃ d, ⌜outRel12 m c t d⌝ ∗ owns (c : Thread nD τ) (ms0_12 t) fullShare d) ∗ (∃ d, owns (c : Thread nD τ) scM0_0 fullShare d) ∗ (∃ d, owns (c : Thread nD τ) scM0_1 fullShare d) ∗ (∃ d, owns (c : Thread nD τ) scM0_2 fullShare d) ∗ (∃ d3 d4 d5 d6, ⌜StateOk m c (t.val + 1) d3 d4 d5 d6⌝ ∗ owns (c : Thread nD τ) scM0_3 fullShare d3 ∗ owns (c : Thread nD τ) scM0_4 fullShare d4 ∗ owns (c : Thread nD τ) scM0_5 fullShare d5 ∗ owns (c : Thread nD τ) scM0_6 fullShare d6)) -∗ K ⟨⟩))
    ⊢ wp frame (wpE (defs₀ (F := Ideal)) Variants.none c none) Set.univ (bodyAt0 t) K := by
  unfold bodyAt0
  refine BIBase.Entails.trans ?_ ((kernelRun0_B (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) hc0 hc1 (iblk m c 0 t) (iblk m c 1 t) (iblk m c 2 t) (iblk m c 3 t) (iblk m c 4 t) (iblk m c 5 t) (iblk m c 6 t) (iblk m c 7 t) (iblk m c 8 t) d3 d4 d5 d6).2.2.2.2 Set.univ K)
  iintro ⟨H0, H1, H2, H3, H4, H5, H6, H7, H8, H9, H10, H11, H12, HS0, HS1, HS2, HS3, HS4, HS5, HS6, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexists _; iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, ⟨%f9, H9⟩, ⟨%f10, H10⟩, ⟨%f11, H11⟩, ⟨%f12, H12⟩, HS0, HS1, HS2, HS3, ⟨%f18, HS4⟩, ⟨%f19, HS5⟩, ⟨%f20, HS6⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr; swap; · iexact H9
    ipureintro; trivial
  isplitl [H10]
  · iexists _; isplitr; swap; · iexact H10
    ipureintro; trivial
  isplitl [H11]
  · iexists _; isplitr; swap; · iexact H11
    ipureintro; trivial
  isplitl [H12]
  · iexists _; isplitr; swap; · iexact H12
    ipureintro; intro h; exact absurd h h1
  isplitl [HS0]; · iexact HS0
  isplitl [HS1]; · iexact HS1
  isplitl [HS2]; · iexact HS2
  iexists _, _, _, _; isplitr; swap
  · isplitl [HS3]; · iexact HS3
    isplitl [HS4]; · iapply (owns_writes c); iexact HS4
    isplitl [HS5]; · iapply (owns_writes c); iexact HS5
    iapply (owns_writes c); iexact HS6
  ipureintro
  intro _ r l
  have h := step_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) _ _ _ d3 d4 d5 d6 (pieces_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) hc0 hc1 d3 d4 d5 d6) f18 f19 f20 r l
  obtain ⟨e3, e4, e5, e6⟩ := hS h0 r l
  rw [e3, e4, e5, e6] at h
  refine ⟨e3, ?_, ?_, ?_⟩
  · rw [mAt_succ]; exact h.1
  · rw [sAt_succ]; exact h.2.1
  · rw [tAt_succ]; exact h.2.2

set_option maxHeartbeats 4000000 in
theorem valRun_C (c : Dev nD) (t : Fin cfg0.N) (y9 : Vec Ideal S6 .f32) (d3 : Vec Ideal S1920x128 .i32) (d4 d5 d6 : Vec Ideal S1920x128 .f32) (hS : StateOk m c t.val d3 d4 d5 d6)
    (hc0 : ¬cond0_0 (grid0.coords t)) (hc1 : cond0_1 (grid0.coords t)) (h0 : 0 < t.val) (h1 : t.val = 124) (hw1 : k0_chk1 (grid0.coords t) ((ms0_7 t).view.readAt (Elt Ideal) (Rect.unit (s := S3) ![0] S1.size inb_S3_S1_0).toLoadRect ((hs0_7 t).unread (iblk m c 7 t)) (Shape.Idx.first (numel1_S1.symm ▸ Nat.one_pos)))) (hw2 : k0_chk2 (grid0.coords t) ((ms0_8 t).view.readAt (Elt Ideal) (Rect.unit (s := S3) ![0] S1.size inb_S3_S1_0).toLoadRect ((hs0_8 t).unread (iblk m c 8 t)) (Shape.Idx.first (numel1_S1.symm ▸ Nat.one_pos)))) (hw3 : k0_chk3 (grid0.coords t) ((ms0_7 t).view.readAt (Elt Ideal) (Rect.unit (s := S3) ![1] S1.size inb_S3_S1_1).toLoadRect ((hs0_7 t).unread (iblk m c 7 t)) (Shape.Idx.first (numel1_S1.symm ▸ Nat.one_pos)))) (hw4 : k0_chk4 (grid0.coords t) ((ms0_8 t).view.readAt (Elt Ideal) (Rect.unit (s := S3) ![1] S1.size inb_S3_S1_1).toLoadRect ((hs0_8 t).unread (iblk m c 8 t)) (Shape.Idx.first (numel1_S1.symm ▸ Nat.one_pos)))) (hw5 : k0_chk5 (grid0.coords t) ((ms0_7 t).view.readAt (Elt Ideal) (Rect.unit (s := S3) ![2] S1.size inb_S3_S1_2).toLoadRect ((hs0_7 t).unread (iblk m c 7 t)) (Shape.Idx.first (numel1_S1.symm ▸ Nat.one_pos)))) (hw6 : k0_chk6 (grid0.coords t) ((ms0_8 t).view.readAt (Elt Ideal) (Rect.unit (s := S3) ![2] S1.size inb_S3_S1_2).toLoadRect ((hs0_8 t).unread (iblk m c 8 t)) (Shape.Idx.first (numel1_S1.symm ▸ Nat.one_pos)))) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare y9 ∗ (∃ d, owns (c : Thread nD τ) (ms0_10 t) fullShare d) ∗ (∃ d, owns (c : Thread nD τ) (ms0_11 t) fullShare d) ∗ (∃ d, owns (c : Thread nD τ) (ms0_12 t) fullShare d) ∗ (∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare d3 ∗ owns (c : Thread nD τ) scM0_4 fullShare d4 ∗ owns (c : Thread nD τ) scM0_5 fullShare d5 ∗ owns (c : Thread nD τ) scM0_6 fullShare d6 ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ (∃ d, ⌜outRel9 m c t d⌝ ∗ owns (c : Thread nD τ) (ms0_9 t) fullShare d) ∗ (∃ d, ⌜outRel10 m c t d⌝ ∗ owns (c : Thread nD τ) (ms0_10 t) fullShare d) ∗ (∃ d, ⌜outRel11 m c t d⌝ ∗ owns (c : Thread nD τ) (ms0_11 t) fullShare d) ∗ (∃ d, ⌜outRel12 m c t d⌝ ∗ owns (c : Thread nD τ) (ms0_12 t) fullShare d) ∗ (∃ d, owns (c : Thread nD τ) scM0_0 fullShare d) ∗ (∃ d, owns (c : Thread nD τ) scM0_1 fullShare d) ∗ (∃ d, owns (c : Thread nD τ) scM0_2 fullShare d) ∗ (∃ d3 d4 d5 d6, ⌜StateOk m c (t.val + 1) d3 d4 d5 d6⌝ ∗ owns (c : Thread nD τ) scM0_3 fullShare d3 ∗ owns (c : Thread nD τ) scM0_4 fullShare d4 ∗ owns (c : Thread nD τ) scM0_5 fullShare d5 ∗ owns (c : Thread nD τ) scM0_6 fullShare d6)) -∗ K ⟨⟩))
    ⊢ wp frame (wpE (defs₀ (F := Ideal)) Variants.none c none) Set.univ (bodyAt0 t) K := by
  unfold bodyAt0
  obtain ⟨L9, L10, L11, L12, LS4, LS5, LS6, hT, hP, hW⟩ := lastRun c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m c 0 t) (iblk m c 1 t) (iblk m c 2 t) (iblk m c 3 t) (iblk m c 4 t) (iblk m c 5 t) (iblk m c 6 t) (iblk m c 7 t) (iblk m c 8 t) hc0 hc1 y9 d3 d4 d5 d6 hw1 hw2 hw3 hw4 hw5 hw6
  refine BIBase.Entails.trans ?_ (hW Set.univ K)
  iintro ⟨H0, H1, H2, H3, H4, H5, H6, H7, H8, H9, H10, H11, H12, HS0, HS1, HS2, HS3, HS4, HS5, HS6, Hk⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, ⟨%f9, H9⟩, ⟨%f10, H10⟩, ⟨%f11, H11⟩, ⟨%f12, H12⟩, HS0, HS1, HS2, HS3, ⟨%f18, HS4⟩, ⟨%f19, HS5⟩, ⟨%f20, HS6⟩⟩
  iapply Hk
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]
  · iexists _; isplitr; swap; · iapply (owns_writes c); iexact H9
    ipureintro; trivial
  isplitl [H10]
  · iexists _; isplitr; swap; · iapply (owns_writes c); iexact H10
    ipureintro; trivial
  isplitl [H11]
  · iexists _; isplitr; swap; · iapply (owns_writes c); iexact H11
    ipureintro; trivial
  isplitl [H12]
  · iexists _; isplitr; swap; · iapply (owns_writes c); iexact H12
    ipureintro; intro _ r
    exact (hT f12 r).trans (tok_last m c t h1 d3 d4 d5 d6 hS r)
  isplitl [HS0]; · iexact HS0
  isplitl [HS1]; · iexact HS1
  isplitl [HS2]; · iexact HS2
  iexists _, _, _, _; isplitr; swap
  · isplitl [HS3]; · iexact HS3
    isplitl [HS4]; · iapply (owns_writes c); iexact HS4
    isplitl [HS5]; · iapply (owns_writes c); iexact HS5
    iapply (owns_writes c); iexact HS6
  ipureintro
  intro _ r l
  have h := hP f18 f19 f20 r l
  obtain ⟨e3, e4, e5, e6⟩ := hS h0 r l
  rw [e3, e4, e5, e6] at h
  refine ⟨e3, ?_, ?_, ?_⟩
  · rw [mAt_succ]; exact h.1
  · rw [sAt_succ]; exact h.2.1
  · rw [tAt_succ]; exact h.2.2

end Cert.KernelIdeal.Hand

end
-- ==== Proof.ValueFrame.lean ====
/- The launch of the idealized kernel with what it computes: it ends, the argument arrays end as they were, and the array of
   the tokens' log probabilities ends at what the state after all tiles gives. -/
module

public import proofs.«01_k».proof.Proof.ValueRun
public import Idealize.ShloMosaic.Lib.Claim
public import Idealize.ShloMosaic.Lib.Pipeline.ArrRel

@[expose] public section

set_option maxRecDepth 16384

noncomputable section

namespace Cert.KernelIdeal.Hand

open Cert.KernelIdeal Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-! ## The pipeline's proof data -/

/-- Between points: the work buffers at some contents, the carried scratch at the state after the tiles so far. -/
def carried (c : Dev nD) (n : ℕ) : sProp 𝕄 :=
  iprop(((∃ d, owns (c : Thread nD τ) scM0_0 fullShare d) ∗ (∃ d, owns (c : Thread nD τ) scM0_1 fullShare d) ∗ (∃ d, owns (c : Thread nD τ) scM0_2 fullShare d) ∗ (∃ d3 d4 d5 d6, ⌜StateOk m c n d3 d4 d5 d6⌝ ∗ owns (c : Thread nD τ) scM0_3 fullShare d3 ∗ owns (c : Thread nD τ) scM0_4 fullShare d4 ∗ owns (c : Thread nD τ) scM0_5 fullShare d5 ∗ owns (c : Thread nD τ) scM0_6 fullShare d6)) ∗ (∃ r, prngReg c r))

/-- The proof data of the pipeline on core `c`: each input's buffer at its block, nothing named of the outputs. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, h⟩ => Pipeline.Dat.unnamed (cfg := cfg0) ⟨9, h⟩ t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ n := carried m c n.val
  q _ := fullShare
  owed _ := 0

theorem A_eq (c : Dev nD) (w : Fin cfg0.W) : (dats m 0 c).A w = V m c (Pipeline.arrRef spec0 w) := by
  dsimp only [dats]

theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]

/-- Each input's buffer holds its block at every point. -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d

/-- and is left at it. -/
theorem leaves0_0 (c : Dev nD) (t : Fin cfg0.N) : (dats m 0 c).Leaves 0 t (iblk m c 0 t) := by
  unfold Dat.Leaves; rw [liveAt0_0 t]; exact (after0_0 m c t).symm
theorem leaves0_1 (c : Dev nD) (t : Fin cfg0.N) : (dats m 0 c).Leaves 1 t (iblk m c 1 t) := by
  unfold Dat.Leaves; rw [liveAt0_1 t]; exact (after0_1 m c t).symm
theorem leaves0_2 (c : Dev nD) (t : Fin cfg0.N) : (dats m 0 c).Leaves 2 t (iblk m c 2 t) := by
  unfold Dat.Leaves; rw [liveAt0_2 t]; exact (after0_2 m c t).symm
theorem leaves0_3 (c : Dev nD) (t : Fin cfg0.N) : (dats m 0 c).Leaves 3 t (iblk m c 3 t) := by
  unfold Dat.Leaves; rw [liveAt0_3 t]; exact (after0_3 m c t).symm
theorem leaves0_4 (c : Dev nD) (t : Fin cfg0.N) : (dats m 0 c).Leaves 4 t (iblk m c 4 t) := by
  unfold Dat.Leaves; rw [liveAt0_4 t]; exact (after0_4 m c t).symm
theorem leaves0_5 (c : Dev nD) (t : Fin cfg0.N) : (dats m 0 c).Leaves 5 t (iblk m c 5 t) := by
  unfold Dat.Leaves; rw [liveAt0_5 t]; exact (after0_5 m c t).symm
theorem leaves0_6 (c : Dev nD) (t : Fin cfg0.N) : (dats m 0 c).Leaves 6 t (iblk m c 6 t) := by
  unfold Dat.Leaves; rw [liveAt0_6 t]; exact (after0_6 m c t).symm
theorem leaves0_7 (c : Dev nD) (t : Fin cfg0.N) : (dats m 0 c).Leaves 7 t (iblk m c 7 t) := by
  unfold Dat.Leaves; rw [liveAt0_7 t]; exact (after0_7 m c t).symm
theorem leaves0_8 (c : Dev nD) (t : Fin cfg0.N) : (dats m 0 c).Leaves 8 t (iblk m c 8 t) := by
  unfold Dat.Leaves; rw [liveAt0_8 t]; exact (after0_8 m c t).symm

/-- What the outputs' buffers may be left at. -/
def outs0 (c : Dev nD) : (w : Fin cfg0.W) → Option (Fin cfg0.N → (Y X : (cfg0.win w).block.Idx → Elt Ideal (cfg0.win w).elt) → Prop)
  | ⟨0, _⟩ => none
  | ⟨1, _⟩ => none
  | ⟨2, _⟩ => none
  | ⟨3, _⟩ => none
  | ⟨4, _⟩ => none
  | ⟨5, _⟩ => none
  | ⟨6, _⟩ => none
  | ⟨7, _⟩ => none
  | ⟨8, _⟩ => none
  | ⟨9, _⟩ => some fun t _ X => outRel9 m c t X
  | ⟨10, _⟩ => some fun t _ X => outRel10 m c t X
  | ⟨11, _⟩ => some fun t _ X => outRel11 m c t X
  | ⟨12, _⟩ => some fun t _ X => outRel12 m c t X

/-- The proof data with the outputs constrained and not named. -/
def rdat (c : Dev nD) : RDat τ (Elt Ideal) Unit ℕ (UR sig nD τ) ℕ cfg0 c := (dats m 0 c).toR.override (outs0 m c)

theorem finds0_0 (c : Dev nD) (t : Fin cfg0.N) (Y : (cfg0.win 0).block.Idx → Elt Ideal (cfg0.win 0).elt) (h : (rdat m c).Finds 0 t Y) : Y = iblk m c 0 t := by
  obtain ⟨d, hd⟩ := (dats m 0 c).toR_finds 0 t _ (((dats m 0 c).toR.override_finds (ovr := outs0 m c) rfl t _).mp h)
  exact hd.trans (before0_0 m c t d)
theorem finds0_1 (c : Dev nD) (t : Fin cfg0.N) (Y : (cfg0.win 1).block.Idx → Elt Ideal (cfg0.win 1).elt) (h : (rdat m c).Finds 1 t Y) : Y = iblk m c 1 t := by
  obtain ⟨d, hd⟩ := (dats m 0 c).toR_finds 1 t _ (((dats m 0 c).toR.override_finds (ovr := outs0 m c) rfl t _).mp h)
  exact hd.trans (before0_1 m c t d)
theorem finds0_2 (c : Dev nD) (t : Fin cfg0.N) (Y : (cfg0.win 2).block.Idx → Elt Ideal (cfg0.win 2).elt) (h : (rdat m c).Finds 2 t Y) : Y = iblk m c 2 t := by
  obtain ⟨d, hd⟩ := (dats m 0 c).toR_finds 2 t _ (((dats m 0 c).toR.override_finds (ovr := outs0 m c) rfl t _).mp h)
  exact hd.trans (before0_2 m c t d)
theorem finds0_3 (c : Dev nD) (t : Fin cfg0.N) (Y : (cfg0.win 3).block.Idx → Elt Ideal (cfg0.win 3).elt) (h : (rdat m c).Finds 3 t Y) : Y = iblk m c 3 t := by
  obtain ⟨d, hd⟩ := (dats m 0 c).toR_finds 3 t _ (((dats m 0 c).toR.override_finds (ovr := outs0 m c) rfl t _).mp h)
  exact hd.trans (before0_3 m c t d)
theorem finds0_4 (c : Dev nD) (t : Fin cfg0.N) (Y : (cfg0.win 4).block.Idx → Elt Ideal (cfg0.win 4).elt) (h : (rdat m c).Finds 4 t Y) : Y = iblk m c 4 t := by
  obtain ⟨d, hd⟩ := (dats m 0 c).toR_finds 4 t _ (((dats m 0 c).toR.override_finds (ovr := outs0 m c) rfl t _).mp h)
  exact hd.trans (before0_4 m c t d)
theorem finds0_5 (c : Dev nD) (t : Fin cfg0.N) (Y : (cfg0.win 5).block.Idx → Elt Ideal (cfg0.win 5).elt) (h : (rdat m c).Finds 5 t Y) : Y = iblk m c 5 t := by
  obtain ⟨d, hd⟩ := (dats m 0 c).toR_finds 5 t _ (((dats m 0 c).toR.override_finds (ovr := outs0 m c) rfl t _).mp h)
  exact hd.trans (before0_5 m c t d)
theorem finds0_6 (c : Dev nD) (t : Fin cfg0.N) (Y : (cfg0.win 6).block.Idx → Elt Ideal (cfg0.win 6).elt) (h : (rdat m c).Finds 6 t Y) : Y = iblk m c 6 t := by
  obtain ⟨d, hd⟩ := (dats m 0 c).toR_finds 6 t _ (((dats m 0 c).toR.override_finds (ovr := outs0 m c) rfl t _).mp h)
  exact hd.trans (before0_6 m c t d)
theorem finds0_7 (c : Dev nD) (t : Fin cfg0.N) (Y : (cfg0.win 7).block.Idx → Elt Ideal (cfg0.win 7).elt) (h : (rdat m c).Finds 7 t Y) : Y = iblk m c 7 t := by
  obtain ⟨d, hd⟩ := (dats m 0 c).toR_finds 7 t _ (((dats m 0 c).toR.override_finds (ovr := outs0 m c) rfl t _).mp h)
  exact hd.trans (before0_7 m c t d)
theorem finds0_8 (c : Dev nD) (t : Fin cfg0.N) (Y : (cfg0.win 8).block.Idx → Elt Ideal (cfg0.win 8).elt) (h : (rdat m c).Finds 8 t Y) : Y = iblk m c 8 t := by
  obtain ⟨d, hd⟩ := (dats m 0 c).toR_finds 8 t _ (((dats m 0 c).toR.override_finds (ovr := outs0 m c) rfl t _).mp h)
  exact hd.trans (before0_8 m c t d)

/-! ## The body obligation, at a generic point -/

/-- The body at any point, whichever of its three cases the point is in. -/
theorem run_any (hH : Hyps m) (c : Dev nD) (t : Fin cfg0.N) (y9 : Vec Ideal S6 .f32) (d3 : Vec Ideal S1920x128 .i32) (d4 d5 d6 : Vec Ideal S1920x128 .f32) (hS : StateOk m c t.val d3 d4 d5 d6) (K : PUnit → sProp 𝕄) :
    iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare y9 ∗ (∃ d, owns (c : Thread nD τ) (ms0_10 t) fullShare d) ∗ (∃ d, owns (c : Thread nD τ) (ms0_11 t) fullShare d) ∗ (∃ d, owns (c : Thread nD τ) (ms0_12 t) fullShare d) ∗ (∃ d, owns (c : Thread nD τ) scM0_0 fullShare d) ∗ (∃ d, owns (c : Thread nD τ) scM0_1 fullShare d) ∗ (∃ d, owns (c : Thread nD τ) scM0_2 fullShare d) ∗ owns (c : Thread nD τ) scM0_3 fullShare d3 ∗ owns (c : Thread nD τ) scM0_4 fullShare d4 ∗ owns (c : Thread nD τ) scM0_5 fullShare d5 ∗ owns (c : Thread nD τ) scM0_6 fullShare d6 ∗ (iprop(owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ (∃ d, ⌜outRel9 m c t d⌝ ∗ owns (c : Thread nD τ) (ms0_9 t) fullShare d) ∗ (∃ d, ⌜outRel10 m c t d⌝ ∗ owns (c : Thread nD τ) (ms0_10 t) fullShare d) ∗ (∃ d, ⌜outRel11 m c t d⌝ ∗ owns (c : Thread nD τ) (ms0_11 t) fullShare d) ∗ (∃ d, ⌜outRel12 m c t d⌝ ∗ owns (c : Thread nD τ) (ms0_12 t) fullShare d) ∗ (∃ d, owns (c : Thread nD τ) scM0_0 fullShare d) ∗ (∃ d, owns (c : Thread nD τ) scM0_1 fullShare d) ∗ (∃ d, owns (c : Thread nD τ) scM0_2 fullShare d) ∗ (∃ d3 d4 d5 d6, ⌜StateOk m c (t.val + 1) d3 d4 d5 d6⌝ ∗ owns (c : Thread nD τ) scM0_3 fullShare d3 ∗ owns (c : Thread nD τ) scM0_4 fullShare d4 ∗ owns (c : Thread nD τ) scM0_5 fullShare d5 ∗ owns (c : Thread nD τ) scM0_6 fullShare d6)) -∗ K ⟨⟩))
    ⊢ wp frame (wpE (defs₀ (F := Ideal)) Variants.none c none) Set.univ (bodyAt0 t) K := by
  have hN : t.val < 125 := lt_of_lt_of_eq t.isLt (show cfg0.N = 125 from N_0)
  by_cases h0 : t.val % 125 = 0
  · exact valRun_A m c t y9 d3 d4 d5 d6 hS ((hcond0_0 t).mpr h0) (fun h => by have := (hcond0_1 t).mp h; omega) (by omega) K
  · by_cases h1 : t.val % 125 = 124
    · have hc1 := (hcond0_1 t).mpr h1
      exact valRun_C m c t y9 d3 d4 d5 d6 hS (fun h => h0 ((hcond0_0 t).mp h)) hc1 (by omega) (by omega) (hH.c0 c t hc1) (hH.c1 c t hc1) (hH.c2 c t hc1) (hH.c3 c t hc1) (hH.c4 c t hc1) (hH.c5 c t hc1) K
    · exact valRun_B m c t y9 d3 d4 d5 d6 hS (fun h => h0 ((hcond0_0 t).mp h)) (fun h => h1 ((hcond0_1 t).mp h)) (by omega) (by omega) K

set_option maxHeartbeats 4000000 in
/-- The body at any point, over what the pipeline hands it there. -/
theorem sound_body (hH : Hyps m) (c : Dev nD) (t : Fin cfg0.N) (y9 : Vec Ideal S6 .f32) (y10 y11 : Vec Ideal S3 .f32) (y12 : Vec Ideal S3x640 .f32) :
    iprop(carried m c t.val ∗ (rdat m c).owesAt () t.castSucc ∗ owns (c : Thread nD τ) (ms0_0 t) fullShare (iblk m c 0 t) ∗ owns (c : Thread nD τ) (ms0_1 t) fullShare (iblk m c 1 t) ∗ owns (c : Thread nD τ) (ms0_2 t) fullShare (iblk m c 2 t) ∗ owns (c : Thread nD τ) (ms0_3 t) fullShare (iblk m c 3 t) ∗ owns (c : Thread nD τ) (ms0_4 t) fullShare (iblk m c 4 t) ∗ owns (c : Thread nD τ) (ms0_5 t) fullShare (iblk m c 5 t) ∗ owns (c : Thread nD τ) (ms0_6 t) fullShare (iblk m c 6 t) ∗ owns (c : Thread nD τ) (ms0_7 t) fullShare (iblk m c 7 t) ∗ owns (c : Thread nD τ) (ms0_8 t) fullShare (iblk m c 8 t) ∗ owns (c : Thread nD τ) (ms0_9 t) fullShare y9 ∗ owns (c : Thread nD τ) (ms0_10 t) fullShare y10 ∗ owns (c : Thread nD τ) (ms0_11 t) fullShare y11 ∗ owns (c : Thread nD τ) (ms0_12 t) fullShare y12)
      ⊢ wp frame (wpE (defs₀ (F := Ideal)) Variants.none c none) Set.univ (bodyAt0 t) (fun _ => iprop(carried m c (t.val + 1) ∗ (rdat m c).owesAt () t.castSucc ∗ (∃ X, ⌜(dats m 0 c).Leaves 0 t X⌝ ∗ owns (c : Thread nD τ) (ms0_0 t) fullShare X) ∗ (∃ X, ⌜(dats m 0 c).Leaves 1 t X⌝ ∗ owns (c : Thread nD τ) (ms0_1 t) fullShare X) ∗ (∃ X, ⌜(dats m 0 c).Leaves 2 t X⌝ ∗ owns (c : Thread nD τ) (ms0_2 t) fullShare X) ∗ (∃ X, ⌜(dats m 0 c).Leaves 3 t X⌝ ∗ owns (c : Thread nD τ) (ms0_3 t) fullShare X) ∗ (∃ X, ⌜(dats m 0 c).Leaves 4 t X⌝ ∗ owns (c : Thread nD τ) (ms0_4 t) fullShare X) ∗ (∃ X, ⌜(dats m 0 c).Leaves 5 t X⌝ ∗ owns (c : Thread nD τ) (ms0_5 t) fullShare X) ∗ (∃ X, ⌜(dats m 0 c).Leaves 6 t X⌝ ∗ owns (c : Thread nD τ) (ms0_6 t) fullShare X) ∗ (∃ X, ⌜(dats m 0 c).Leaves 7 t X⌝ ∗ owns (c : Thread nD τ) (ms0_7 t) fullShare X) ∗ (∃ X, ⌜(dats m 0 c).Leaves 8 t X⌝ ∗ owns (c : Thread nD τ) (ms0_8 t) fullShare X) ∗ (∃ X, ⌜outRel9 m c t X⌝ ∗ owns (c : Thread nD τ) (ms0_9 t) fullShare X) ∗ (∃ X, ⌜outRel10 m c t X⌝ ∗ owns (c : Thread nD τ) (ms0_10 t) fullShare X) ∗ (∃ X, ⌜outRel11 m c t X⌝ ∗ owns (c : Thread nD τ) (ms0_11 t) fullShare X) ∗ (∃ X, ⌜outRel12 m c t X⌝ ∗ owns (c : Thread nD τ) (ms0_12 t) fullShare X))) := by
  unfold carried
  iintro ⟨⟨⟨HS0, HS1, HS2, ⟨%d3, %d4, %d5, %d6, %hS, HS3, HS4, HS5, HS6⟩⟩, Hg⟩, Ho, H0, H1, H2, H3, H4, H5, H6, H7, H8, H9, H10, H11, H12⟩
  iapply (run_any m hH c t y9 d3 d4 d5 d6 hS _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexists _; iexact H10
  isplitl [H11]; · iexists _; iexact H11
  isplitl [H12]; · iexists _; iexact H12
  isplitl [HS0]; · iexact HS0
  isplitl [HS1]; · iexact HS1
  isplitl [HS2]; · iexact HS2
  isplitl [HS3]; · iexact HS3
  isplitl [HS4]; · iexact HS4
  isplitl [HS5]; · iexact HS5
  isplitl [HS6]; · iexact HS6
  iintro ⟨H0, H1, H2, H3, H4, H5, H6, H7, H8, H9, H10, H11, H12, HS0, HS1, HS2, HS⟩
  isplitl [HS0 HS1 HS2 HS Hg]
  · isplitl [HS0 HS1 HS2 HS]
    · isplitl [HS0]; · iexact HS0
      isplitl [HS1]; · iexact HS1
      isplitl [HS2]; · iexact HS2
      iexact HS
    iexact Hg
  isplitl [Ho]; · iexact Ho
  isplitl [H0]
  · iexists _; isplitr; swap; · iexact H0
    ipureintro; exact leaves0_0 m c t
  isplitl [H1]
  · iexists _; isplitr; swap; · iexact H1
    ipureintro; exact leaves0_1 m c t
  isplitl [H2]
  · iexists _; isplitr; swap; · iexact H2
    ipureintro; exact leaves0_2 m c t
  isplitl [H3]
  · iexists _; isplitr; swap; · iexact H3
    ipureintro; exact leaves0_3 m c t
  isplitl [H4]
  · iexists _; isplitr; swap; · iexact H4
    ipureintro; exact leaves0_4 m c t
  isplitl [H5]
  · iexists _; isplitr; swap; · iexact H5
    ipureintro; exact leaves0_5 m c t
  isplitl [H6]
  · iexists _; isplitr; swap; · iexact H6
    ipureintro; exact leaves0_6 m c t
  isplitl [H7]
  · iexists _; isplitr; swap; · iexact H7
    ipureintro; exact leaves0_7 m c t
  isplitl [H8]
  · iexists _; isplitr; swap; · iexact H8
    ipureintro; exact leaves0_8 m c t
  isplitl [H9]; · iexact H9
  isplitl [H10]; · iexact H10
  isplitl [H11]; · iexact H11
  iexact H12

/-- The body table's row at point `t`'s slots is the body as `bodyAt0` spells it. -/
theorem defs₀_row (t : Fin cfg0.N) :
    defs₀ (F := Ideal) .tc cfg0.body (cfg0.bodyArgs t (cfg0.slots t)) = bodyAt0 t := by
  unfold defs₀; rw [Defs.onTc_tc]

theorem body_obligation (hH : Hyps m) (c : Dev nD) : (rdat m c).BodyObligation (defs₀ (F := Ideal)) Variants.none () Set.univ := fun t Y hY => by
  have e0 := finds0_0 m c t (Y 0) (hY 0)
  have e1 := finds0_1 m c t (Y 1) (hY 1)
  have e2 := finds0_2 m c t (Y 2) (hY 2)
  have e3 := finds0_3 m c t (Y 3) (hY 3)
  have e4 := finds0_4 m c t (Y 4) (hY 4)
  have e5 := finds0_5 m c t (Y 5) (hY 5)
  have e6 := finds0_6 m c t (Y 6) (hY 6)
  have e7 := finds0_7 m c t (Y 7) (hY 7)
  have e8 := finds0_8 m c t (Y 8) (hY 8)
  rw [bigSep_W0, bigSep_W0, defs₀_row]
  refine triple_restated (sound_body m hH c t (Y 9) (Y 10) (Y 11) (Y 12)) rfl ?_ fun _ => .rfl
  rw [e0, e1, e2, e3, e4, e5, e6, e7, e8]
  exact .rfl

/-! ## The run and the frame -/

theorem carried_in (c : Dev nD) : Pipeline.ΦA spec0 c ⊢ (rdat m c).Φ 0 := by
  rw [PhiA0_eq]
  show _ ⊢ carried m c 0
  unfold carried
  iintro ⟨⟨HS0, HS1, HS2, ⟨%d3, HS3⟩, ⟨%d4, HS4⟩, ⟨%d5, HS5⟩, ⟨%d6, HS6⟩⟩, Hg⟩
  isplitl [HS0 HS1 HS2 HS3 HS4 HS5 HS6]
  · isplitl [HS0]; · iexact HS0
    isplitl [HS1]; · iexact HS1
    isplitl [HS2]; · iexact HS2
    iexists d3, d4, d5, d6
    isplitr; · ipureintro; exact fun h => absurd h (lt_irrefl 0)
    isplitl [HS3]; · iexact HS3
    isplitl [HS4]; · iexact HS4
    isplitl [HS5]; · iexact HS5
    iexact HS6
  iexact Hg

theorem carried_out (c : Dev nD) : (rdat m c).Φ (Fin.last cfg0.N) ⊢ Pipeline.ΦA spec0 c := by
  rw [PhiA0_eq]
  show carried m c _ ⊢ _
  unfold carried
  iintro ⟨⟨HS0, HS1, HS2, ⟨%d3, %d4, %d5, %d6, %hS, HS3, HS4, HS5, HS6⟩⟩, Hg⟩
  isplitl [HS0 HS1 HS2 HS3 HS4 HS5 HS6]
  · isplitl [HS0]; · iexact HS0
    isplitl [HS1]; · iexact HS1
    isplitl [HS2]; · iexact HS2
    isplitl [HS3]; · iexists _; iexact HS3
    isplitl [HS4]; · iexists _; iexact HS4
    isplitl [HS5]; · iexists _; iexact HS5
    iexists _; iexact HS6
  iexact Hg

set_option backward.isDefEq.respectTransparency.types false in
/-- The launch: what the arrays end at, and every semaphore counter at zero. -/
theorem run_main_quiescent (hH : Hyps m) : θ_run defs (onTc (τ := τ) (main (F := Ideal))) (s₀ m ρ) (fun r => (Pipeline.RDat.FramePost (cfgs 0) (rdat m) (V m)) r ∧ r.2.sem = fun _ => 0) :=
  Pipeline.RDat.θ_run_frame_track (Q' := _) cfgs (0 : Fin 1) launch0 defs₀ Variants.none (rdat m) m ρ main
    (hbody := body_obligation m hH) (hshare := fun c => (dats m 0 c).share_full fun _ => rfl)
    (howed := fun _ _ => rfl) (V := V m) (hmain := hmain m Variants.none) (hA := A_eq m) (hin := carried_in m) (hout := carried_out m)

theorem lt_N (n : ℕ) (h : n < 125) : n < cfg0.N := lt_of_lt_of_eq h (show cfg0.N = 125 from N_0).symm

/-- The launch's post read at the argument arrays. -/
theorem unchanged_of (r : PUnit × MemSt nD τ sig (Elt Ideal)) (h : Pipeline.RDat.FramePost (cfgs 0) (rdat m) (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8) :=
  ⟨((h c).2 main_arg0 (Pipeline.mem_restRefs_of main_arg0 (by decide) (by decide))).trans (V_main_arg0 m c),
      (Pipeline.RDat.FramePost.arr_in h c 1 rfl).trans ((A_eq m c 1).trans (V_main_arg1 m c)),
      ((h c).2 main_arg2 (Pipeline.mem_restRefs_of main_arg2 (by decide) (by decide))).trans (V_main_arg2 m c),
      (Pipeline.RDat.FramePost.arr_in h c 3 rfl).trans ((A_eq m c 3).trans (V_main_arg3 m c)),
      (Pipeline.RDat.FramePost.arr_in h c 4 rfl).trans ((A_eq m c 4).trans (V_main_arg4 m c)),
      (Pipeline.RDat.FramePost.arr_in h c 5 rfl).trans ((A_eq m c 5).trans (V_main_arg5 m c)),
      (Pipeline.RDat.FramePost.arr_in h c 6 rfl).trans ((A_eq m c 6).trans (V_main_arg6 m c)),
      (Pipeline.RDat.FramePost.arr_in h c 7 rfl).trans ((A_eq m c 7).trans (V_main_arg7 m c)),
      (Pipeline.RDat.FramePost.arr_in h c 8 rfl).trans ((A_eq m c 8).trans (V_main_arg8 m c))⟩

/-- What the array of the tokens' log probabilities ends at. -/
theorem tok_of (r : PUnit × MemSt nD τ sig (Elt Ideal)) (h : Pipeline.RDat.FramePost (cfgs 0) (rdat m) (V m) r) (c : Dev nD) (q : Fin 1920) :
    (r.2.mem ((c.tc : Thread nD τ).loc main_v2_3) : Vec Ideal S3x640 .f32) (ix2 (tokRow q) (tokCol q)) = tokAt m c q := by
  have hG := (h c).1 12
  have hw : (cfg0.win 12).WholeAt ⟨124, lt_N 124 (by norm_num)⟩ := by decide +kernel
  obtain ⟨X, ⟨Y, hY, hX⟩, e⟩ := Pipeline.RDat.ArrAt.emb_eq_of_wholeAt hG hw
  have hX' : outRel12 m c ⟨124, lt_N 124 (by norm_num)⟩ X := hX
  refine Eq.trans ?_ (hX' rfl q)
  exact e (ix2 (tokRow q) (tokCol q))

end Cert.KernelIdeal.Hand

end
-- ==== Proof.RefTokens.lean ====
/- The reference's token log probabilities: its logits as one sum over the 6144 features, and a token's log probability as
   the label's logit less the logarithm of the sum of the exponentials of the row's logits. -/
module

public import proofs.«01_k».proof.Proof.Combine
public import proofs.«01_k».proof.Proof.Gen.ReferenceIdeal.Read
public import Idealize.ShloMosaic.PureOps.Reduce

@[expose] public section

set_option maxRecDepth 65536

noncomputable section

namespace Cert.ReferenceIdeal.Hand

open Cert.ReferenceIdeal Cert.ReferenceIdeal.Gen Cert.ReferenceIdeal.Read Idealize.ShloMosaic Idealize.ShloMosaic.TcCoe Idealize.SL.Sem Idealize.ShloMosaic.StableHlo
open Cert.KernelIdeal.Hand (nibv tokRow tokCol coe_sum' ofBits_negInf expR expR_nonneg exp_sub_real exp_sub_top log_zero log_shift)

/-- The code in the low half of a byte, as the reference reads it, -/
theorem code_lo (b : BitVec 8) :
    ((((Scalar.select (IntOp.cmpi .sge (IntOp.andi (b.setWidth 32) 15#32) 8#32) (IntOp.subi (IntOp.andi (b.setWidth 32) 15#32) 16#32) (IntOp.andi (b.setWidth 32) 15#32)).setWidth 8).signExtend 32).toInt : ℤ)
      = if b.toNat % 16 < 8 then ((b.toNat % 16 : ℕ) : ℤ) else ((b.toNat % 16 : ℕ) : ℤ) - 16 := by
  revert b; decide +kernel
/-- and in its high half. -/
theorem code_hi (b : BitVec 8) :
    ((((Scalar.select (IntOp.cmpi .sge (IntOp.shrsi .host (b.setWidth 32) 4#32) 8#32) (IntOp.subi (IntOp.shrsi .host (b.setWidth 32) 4#32) 16#32) (IntOp.shrsi .host (b.setWidth 32) 4#32)).setWidth 8).signExtend 32).toInt : ℤ)
      = if b.toNat / 16 % 16 < 8 then ((b.toNat / 16 % 16 : ℕ) : ℤ) else ((b.toNat / 16 % 16 : ℕ) : ℤ) - 16 := by
  revert b; decide +kernel

theorem nibv_int (n : ℕ) : (((if n < 8 then (n : ℤ) else (n : ℤ) - 16 : ℤ) : ℝ) : EReal) = nibv n := by
  unfold nibv; split <;> simp

variable (x0 : (⟨S3x640x6144, .bf16⟩ : BufTy).Contents (Elt Ideal)) (x1 : (⟨S32000x3072, .i8⟩ : BufTy).Contents (Elt Ideal)) (x2 : (⟨S32000x96, .f32⟩ : BufTy).Contents (Elt Ideal)) (x3 : (⟨S3x640, .i32⟩ : BufTy).Contents (Elt Ideal))

/-- The head's weight of feature `k` for word `v`: the byte's code times the group's scale. -/
def headWt (k : Fin 6144) (v : Fin 32000) : EReal :=
  nibv ((x1 (ix2 v ⟨k / 2, by omega⟩)).toNat / 16 ^ (k.val % 2) % 16) * x2 (ix2 v ⟨k / 64, by omega⟩)

/-- The head's logit of a row and a word. -/
def headLogit (r : Fin 1920) (v : Fin 32000) : EReal := ∑ k : Fin 6144, x0 (ix3 (tokRow r) (tokCol r) k) * headWt x1 x2 k v

theorem scale_apply (v : Fin 32000) (k : Fin 3072) : val_main_v3 (F := Ideal) x2 (ix2 v k) = x2 (ix2 v ⟨k / 32, by omega⟩) := by
  rw [val_main_v3_apply, val_main_v2_apply, val_main_v1_apply]
  refine congrArg x2 (funext fun a => Fin.ext ?_)
  have := v.isLt
  have := k.isLt
  match a with
  | ⟨0, _⟩ => show (v.val * 3072 + k.val) / 3072 = v.val; omega
  | ⟨1, _⟩ => show (v.val * 3072 + k.val) / 32 % 96 = k.val / 32; omega

theorem wlo_apply (v : Fin 32000) (k : Fin 3072) :
    val_main_v14 (F := Ideal) x1 x2 (ix2 v k) = nibv ((x1 (ix2 v k)).toNat % 16) * x2 (ix2 v ⟨k / 32, by omega⟩) := by
  rw [val_main_v14_apply, scale_apply]
  refine congrArg (· * _) ?_
  rw [← nibv_int, ← code_lo]
  rfl

theorem whi_apply (v : Fin 32000) (k : Fin 3072) :
    val_main_v25 (F := Ideal) x1 x2 (ix2 v k) = nibv ((x1 (ix2 v k)).toNat / 16 % 16) * x2 (ix2 v ⟨k / 32, by omega⟩) := by
  rw [val_main_v25_apply, scale_apply]
  refine congrArg (· * _) ?_
  rw [← nibv_int, ← code_hi]
  rfl

theorem row_apply (r : Fin 1920) (k : Fin 6144) : val_main_v26 (F := Ideal) x0 (ix2 r k) = x0 (ix3 (tokRow r) (tokCol r) k) := by
  rw [val_main_v26_apply]
  refine congrArg x0 (funext fun a => Fin.ext ?_)
  have := r.isLt
  have := k.isLt
  match a with
  | ⟨0, _⟩ => show (r.val * 6144 + k.val) / 3932160 = r.val / 640; omega
  | ⟨1, _⟩ => show (r.val * 6144 + k.val) / 6144 % 640 = r.val % 640; omega
  | ⟨2, _⟩ => show (r.val * 6144 + k.val) % 6144 = k.val; omega

theorem even_apply (r : Fin 1920) (k : Fin 3072) : val_main_v27 (F := Ideal) x0 (ix2 r k) = x0 (ix3 (tokRow r) (tokCol r) ⟨2 * k.val, by omega⟩) := by
  rw [← row_apply x0 r ⟨2 * k.val, by omega⟩]
  unfold val_main_v27 Host.slice
  refine congrArg _ (funext fun a => Fin.ext ?_)
  match a with
  | ⟨0, _⟩ => show 0 + 1 * r.val = r.val; omega
  | ⟨1, _⟩ => show 0 + 2 * k.val = 2 * k.val; omega
theorem odd_apply (r : Fin 1920) (k : Fin 3072) : val_main_v29 (F := Ideal) x0 (ix2 r k) = x0 (ix3 (tokRow r) (tokCol r) ⟨2 * k.val + 1, by omega⟩) := by
  rw [← row_apply x0 r ⟨2 * k.val + 1, by omega⟩]
  unfold val_main_v29 Host.slice
  refine congrArg _ (funext fun a => Fin.ext ?_)
  match a with
  | ⟨0, _⟩ => show 0 + 1 * r.val = r.val; omega
  | ⟨1, _⟩ => show 1 + 2 * k.val = 2 * k.val + 1; omega

/-- A sum over the features is that over the even ones and that over the odd ones. -/
theorem sum_even_odd (f : Fin 6144 → EReal) : ∑ k, f k = (∑ k : Fin 3072, f ⟨2 * k.val, by omega⟩) + ∑ k : Fin 3072, f ⟨2 * k.val + 1, by omega⟩ := by
  rw [← Finset.sum_add_distrib]
  refine ((Equiv.sum_comp (finProdFinEquiv (m := 3072) (n := 2)) f).symm.trans (Fintype.sum_prod_type _)).trans ?_
  refine Finset.sum_congr rfl fun k _ => ?_
  rw [Fin.sum_univ_two]
  congr 2 <;> refine Fin.ext ?_
  · show (0 : ℕ) + 2 * k.val = 2 * k.val; omega
  · show (1 : ℕ) + 2 * k.val = 2 * k.val + 1; omega

/-- The reference's logits. -/
theorem logits_apply (r : Fin 1920) (v : Fin 32000) : val_main_v31 (F := Ideal) x0 x1 x2 (ix2 r v) = headLogit x0 x1 x2 r v := by
  rw [val_main_v31_apply, val_main_v28_apply, val_main_v30_apply]
  unfold headLogit
  rw [sum_even_odd]
  refine congrArg₂ (· + ·) (Finset.sum_congr rfl fun k _ => ?_) (Finset.sum_congr rfl fun k _ => ?_)
  · rw [show lidx_main_v28 (ix2 r v) k = ix2 r k from by funext a; match a with | ⟨0, _⟩ => rfl | ⟨1, _⟩ => rfl,
      show ridx_main_v28 (ix2 r v) k = ix2 v k from by funext a; match a with | ⟨0, _⟩ => rfl | ⟨1, _⟩ => rfl, even_apply, wlo_apply]
    unfold headWt
    have e1 : 2 * k.val / 2 = k.val := by omega
    have e2 : 2 * k.val % 2 = 0 := by omega
    have e3 : 2 * k.val / 64 = k.val / 32 := by omega
    simp only [e1, e2, e3, pow_zero, Nat.div_one]
  · rw [show lidx_main_v30 (ix2 r v) k = ix2 r k from by funext a; match a with | ⟨0, _⟩ => rfl | ⟨1, _⟩ => rfl,
      show ridx_main_v30 (ix2 r v) k = ix2 v k from by funext a; match a with | ⟨0, _⟩ => rfl | ⟨1, _⟩ => rfl, odd_apply, whi_apply]
    unfold headWt
    have e1 : (2 * k.val + 1) / 2 = k.val := by omega
    have e2 : (2 * k.val + 1) % 2 = 1 := by omega
    have e3 : (2 * k.val + 1) / 64 = k.val / 32 := by omega
    simp only [e1, e2, e3, pow_one]

/-! ## A token's log probability -/

theorem logits_at (i : S1920x32000.Idx) : val_main_v31 (F := Ideal) x0 x1 x2 i = headLogit x0 x1 x2 (i 0) (i 1) := by
  have e : i = ix2 (i 0 : Fin 1920) (i 1 : Fin 32000) := by funext a; match a with | ⟨0, _⟩ => rfl | ⟨1, _⟩ => rfl
  exact (congrArg (val_main_v31 (F := Ideal) x0 x1 x2) e).trans (logits_apply x0 x1 x2 (i 0) (i 1))

/-- What the row maximum that the reference subtracts is at least. -/
theorem le_top (r : Fin 1920) (z : EReal) (hz : z ≠ ⊥) : z ≤ val_main_v32 (F := Ideal) x0 x1 x2 (ix1 r) ↔ ∃ v, z ≤ headLogit x0 x1 x2 r v := by
  unfold val_main_v32
  rw [Host.reduce_eq_fold]
  have hi : val_main_cst (F := Ideal) (Shape.Idx.first h_S_) = (⊥ : EReal) := ofBits_negInf
  rw [hi]
  refine (Finset.le_fold_max _).trans ⟨?_, ?_⟩
  · rintro (h | ⟨i, hi, h⟩)
    · exact absurd (le_bot_iff.mp h) hz
    · rw [Finset.mem_filter] at hi
      have e0 : (i 0 : Fin 1920) = r := by
        refine Fin.ext ?_
        have e := congrArg (fun q : S1920.Idx => (q 0).val) hi.2
        exact (Shape.ReducesTo.drop_apply_val_of_eq reducesTo_S1920x32000_S1920_d1 i 0 0).symm.trans e
      refine ⟨i 1, ?_⟩
      rw [← e0, ← logits_at]
      exact h
  · rintro ⟨v, h⟩
    refine Or.inr ⟨ix2 r v, ?_, by rw [logits_apply]; exact h⟩
    rw [Finset.mem_filter]
    refine ⟨Finset.mem_univ _, funext fun a => Fin.ext ?_⟩
    match a with
    | ⟨0, _⟩ => exact (Shape.ReducesTo.drop_apply_val_of_eq reducesTo_S1920x32000_S1920_d1 (ix2 r v) 0 0).trans rfl

/-- The logarithm of the sum of a row's exponentials; where a logit is infinite, what the shifted sum makes of it. -/
def rowLse (r : Fin 1920) : EReal :=
  open Classical in if ∃ v, headLogit x0 x1 x2 r v = ⊤ then ⊥ else Ideal.log ((∑ v, expR (headLogit x0 x1 x2 r v) : ℝ) : EReal)

/-- The reference's logarithm of the sum of exponentials of a row. -/
theorem lse_apply (r : Fin 1920) : val_main_v40 (F := Ideal) x0 x1 x2 (ix1 r) = rowLse x0 x1 x2 r := by
  have hle := le_top x0 x1 x2 r
  have h33 : val_main_v33 (F := Ideal) x0 x1 x2 (ix2 r 0) = val_main_v32 (F := Ideal) x0 x1 x2 (ix1 r) := by
    rw [val_main_v33_apply]
    exact congrArg _ (funext fun a => match a with | ⟨0, _⟩ => rfl)
  have h39 : val_main_v39 (F := Ideal) x0 x1 x2 (ix1 r) = val_main_v32 (F := Ideal) x0 x1 x2 (ix1 r) := by
    rw [val_main_v39_apply, ← h33]
    refine congrArg _ (funext fun a => Fin.ext ?_)
    match a with
    | ⟨0, _⟩ => show r.val / 1 = r.val; omega
    | ⟨1, _⟩ => rfl
  have h36 : ∀ v : Fin 32000, val_main_v36 (F := Ideal) x0 x1 x2 (ix2 r v) = Ideal.exp (headLogit x0 x1 x2 r v - val_main_v32 (F := Ideal) x0 x1 x2 (ix1 r)) := by
    intro v
    rw [val_main_v36_apply, val_main_v35_apply, val_main_v34_apply, logits_apply,
      show idx_main_v34 (ix2 r v) = ix2 r 0 from by funext a; match a with | ⟨0, _⟩ => rfl | ⟨1, _⟩ => rfl, h33]
    rfl
  have h37 : val_main_v37 (F := Ideal) x0 x1 x2 (ix1 r) = ∑ v, Ideal.exp (headLogit x0 x1 x2 r v - val_main_v32 (F := Ideal) x0 x1 x2 (ix1 r)) := by
    rw [val_main_v37_apply]
    have hz : val_main_cst_5 (F := Ideal) (Shape.Idx.first h_S_) = (0 : EReal) := by
      show Ideal.ofBits FTy.f32 0#32 = 0
      exact Ideal.ofBits_zero FTy.f32
    rw [hz, zero_add]
    refine Finset.sum_congr rfl fun v _ => ?_
    rw [show idx_main_v37 (ix1 r) v = ix2 r v from by funext a; match a with | ⟨0, _⟩ => rfl | ⟨1, _⟩ => rfl, h36]
  rw [val_main_v40_apply, val_main_v38_apply, h37, h39]
  generalize val_main_v32 (F := Ideal) x0 x1 x2 (ix1 r) = top at hle
  show Ideal.log (∑ v, Ideal.exp (headLogit x0 x1 x2 r v - top)) + (top : EReal) = _
  unfold rowLse
  generalize headLogit x0 x1 x2 r = f at hle
  by_cases h : ∃ v, f v = ⊤
  · have ht : top = ⊤ := top_le_iff.mp ((hle ⊤ (by simp)).mpr (h.imp fun v e => e.ge))
    rw [if_pos h, ht]
    simp only [exp_sub_top, Finset.sum_const_zero, log_zero, EReal.bot_add]
  · rw [if_neg h]
    have hf : ∀ v, f v ≠ ⊤ := fun v e => h ⟨v, e⟩
    have hub : ∀ v, f v ≤ top := fun v => by
      by_cases e : f v = ⊥
      · rw [e]; exact bot_le
      · exact (hle (f v) e).mpr ⟨v, le_rfl⟩
    induction top using EReal.rec with
    | bot =>
      have e : ∀ v, f v = ⊥ := fun v => le_bot_iff.mp (hub v)
      simp only [e, EReal.bot_sub, expR, Ideal.exp_bot, EReal.toReal_zero, Finset.sum_const_zero, EReal.coe_zero, log_zero, EReal.bot_add]
    | coe t =>
      rw [← log_shift _ (Finset.sum_nonneg fun v _ => expR_nonneg _) t, add_comm, Finset.sum_mul, ← coe_sum']
      exact congrArg (fun z => (t : EReal) + Ideal.log z) (Finset.sum_congr rfl fun v _ => exp_sub_real _ (hf v) t)
    | top =>
      obtain ⟨v, e⟩ := (hle ⊤ (by simp)).mp le_rfl
      exact absurd (top_le_iff.mp e) (hf v)

/-- The label that a row reads its logit at. -/
theorem label_apply (r : Fin 1920) (hlab : (x3 (ix2 (tokRow r) (tokCol r))).toNat < 32000) :
    (val_main_call2_v5 (F := Ideal) x3 (ix3 r 0 0)) = x3 (ix2 (tokRow r) (tokCol r)) := by
  have h41 : val_main_v41 (F := Ideal) x3 (ix2 r 0) = x3 (ix2 (tokRow r) (tokCol r)) := by
    rw [val_main_v41_apply]
    refine congrArg x3 (funext fun a => Fin.ext ?_)
    match a with
    | ⟨0, _⟩ => show (r.val * 1 + 0) / 640 = r.val / 640; omega
    | ⟨1, _⟩ => show (r.val * 1 + 0) % 640 = r.val % 640; omega
  rw [val_main_call2_v5_apply]
  have e : idx_main_call2_v5 (ix3 r 0 0) = ix2 r 0 := by
    funext a; refine Fin.ext ?_
    match a with
    | ⟨0, _⟩ => show ((r.val * 1 + 0) * 1 + 0) / 1 = r.val; omega
    | ⟨1, _⟩ => rfl
  rw [e, val_main_call2_v4_apply, val_main_call2_v1_apply, h41, val_main_call2_v0_apply, val_main_call2_c_apply]
  generalize x3 (ix2 (tokRow r) (tokCol r)) = b at hlab
  have hs : IntOp.cmpi .slt b 0#32 = 0#1 := by
    have : ¬ b.slt 0#32 := by
      rw [BitVec.slt_eq_decide]
      have hb : b.toInt = b.toNat := BitVec.toInt_eq_toNat_of_lt (by omega)
      simp [hb]
    simp [IntOp.cmpi, this]
  rw [hs]
  rfl

theorem target_apply (r : Fin 1920) (hlab : (x3 (ix2 (tokRow r) (tokCol r))).toNat < 32000) :
    val_main_v42 (F := Ideal) x0 x1 x2 x3 (ix2 r 0) = headLogit x0 x1 x2 r ⟨(x3 (ix2 (tokRow r) (tokCol r))).toNat, hlab⟩ := by
  rw [← logits_apply]
  unfold val_main_v42 Host.gather
  refine congrArg _ (funext fun a => Fin.ext ?_)
  have h5 := label_apply x3 r hlab
  generalize val_main_call2_v5 (F := Ideal) x3 = idx at h5
  let d := gather_S1920x32000_S1920x1x1_S1920x1_n_1_0_0_1_2_11
  show d.start (ix2 r 0) idx a + d.batchCoord (ix2 r 0) a + d.offCoord (ix2 r 0) a = _
  match a with
  | ⟨0, _⟩ =>
    show d.start (ix2 r 0) idx 0 + d.batchCoord (ix2 r 0) 0 + d.offCoord (ix2 r 0) 0 = _
    rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ d.operandBatchingDims from List.mem_singleton.mpr rfl)]
    rfl
  | ⟨1, _⟩ =>
    show d.start (ix2 r 0) idx 1 + d.batchCoord (ix2 r 0) 1 + d.offCoord (ix2 r 0) 1 = _
    rw [GatherDims.batchCoord_eq_zero _ _ _ (fun h => absurd (List.mem_singleton.mp h) (by decide)),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ d.startIndexMap from List.mem_singleton.mpr rfl)]
    have hsi : d.siIdx (ix2 r 0) ⟨List.idxOf (1 : Fin 2) d.startIndexMap, List.idxOf_lt_length_iff.2 (List.mem_singleton.mpr rfl)⟩ = ix3 r 0 0 := by
      funext b; refine Fin.ext ?_
      match b with
      | ⟨0, _⟩ => rfl
      | ⟨1, _⟩ => rfl
      | ⟨2, _⟩ => rfl
    rw [hsi, h5]
    have hb : (x3 (ix2 (tokRow r) (tokCol r))).toInt = (x3 (ix2 (tokRow r) (tokCol r))).toNat := BitVec.toInt_eq_toNat_of_lt (by omega)
    rw [hb, Int.toNat_natCast]
    show min _ (32000 - 1) = _
    exact min_eq_left (by omega)

/-- The reference's log probability of a token. -/
theorem token_apply (r : Fin 1920) (hlab : (x3 (ix2 (tokRow r) (tokCol r))).toNat < 32000) :
    val_main_v45 (F := Ideal) x0 x1 x2 x3 (ix2 (tokRow r) (tokCol r))
      = headLogit x0 x1 x2 r ⟨(x3 (ix2 (tokRow r) (tokCol r))).toNat, hlab⟩ - rowLse x0 x1 x2 r := by
  rw [val_main_v45_apply]
  have e : idx_main_v45 (ix2 (tokRow r) (tokCol r)) = ix1 r := by
    funext a; refine Fin.ext ?_
    match a with
    | ⟨0, _⟩ => show r.val / 640 * 640 + r.val % 640 = r.val; omega
  have e' : idx_main_v43 (ix1 r) = ix2 r 0 := by
    funext a; refine Fin.ext ?_
    match a with
    | ⟨0, _⟩ => show r.val / 1 = r.val; omega
    | ⟨1, _⟩ => rfl
  rw [e, val_main_v44_apply, val_main_v43_apply, e', target_apply x0 x1 x2 x3 r hlab, lse_apply x0 x1 x2 r]
  rfl

end Cert.ReferenceIdeal.Hand

end
-- ==== Proof.Operands.lean ====
/- The launch's blocks read at the arguments: a tile's logits are the head's logits of its 256 words, put in the tile's
   order, and the state after all the tiles gives a token's log probability over all the words. -/
module

public import proofs.«01_k».proof.Proof.ValueFrame
public import proofs.«01_k».proof.Proof.RefTokens
public import Idealize.ShloMosaic.Lib.Pipeline.ValueKit.Geometry

@[expose] public section

set_option maxRecDepth 65536

noncomputable section

namespace Cert.KernelIdeal.Hand

open Cert.KernelIdeal Cert.KernelIdeal.Gen
open Idealize.ShloMosaic Idealize.ShloMosaic.TcCoe Idealize.SL.Sem Idealize.ShloMosaic.StableHlo
open Cert.ReferenceIdeal.Hand (headLogit rowLse headWt)

variable (m : (ℓ : Loc nD τ sig) → Buf (Elt Ideal) ℓ)

theorem index_0 : ∀ t : Fin cfg0.N, win0_0.index t = ![0, 0] := (by decide +kernel : ∀ t : Fin grid0.N, _)
theorem index_1 : ∀ t : Fin cfg0.N, win0_1.index t = ![t.val, 0] := (by decide +kernel : ∀ t : Fin grid0.N, _)
theorem index_2 : ∀ t : Fin cfg0.N, win0_2.index t = ![0, t.val] := (by decide +kernel : ∀ t : Fin grid0.N, _)
theorem index_3 : ∀ t : Fin cfg0.N, win0_3.index t = ![0, 0] := (by decide +kernel : ∀ t : Fin grid0.N, _)

theorem val_N (t : Fin cfg0.N) : t.val < 125 := Nat.lt_of_lt_of_eq t.isLt N_0

/-- The rows that the launch is given are the argument's, flattened, -/
theorem rows_V (c : Dev nD) (r : Fin 1920) (k : Fin 6144) :
    (V m c main_v0 : Vec Ideal S1920x6144 .bf16) (ix2 r k) = (m ((c.tc : Thread nD τ).loc main_arg0) : Vec Ideal S3x640x6144 .bf16) (ix3 (tokRow r) (tokCol r) k) := by
  have h : V m c main_v0 = (shapeCast S1920x6144 (m ((c.tc : Thread nD τ).loc main_arg0) : Vec Ideal S3x640x6144 .bf16) shapeCasts_S3x640x6144_S1920x6144) := by
    show StableHlo.after hostOps0 _ _ = _
    after_results
    rfl
  rw [h]
  refine shapeCast_apply _ _ _ _ ?_
  show (S3x640x6144.rowMajor (ix3 (tokRow r) (tokCol r) k)).val = (S1920x6144.rowMajor (ix2 r k)).val
  rewrite [Shape.rowMajor_val_three, Shape.rowMajor_val_two]
  have := r.isLt
  show (r.val / 640 * 640 + r.val % 640) * 6144 + k.val = r.val * 6144 + k.val
  omega

/-- and the scales the argument's, transposed. -/
theorem scales_V (c : Dev nD) (g : Fin 96) (v : Fin 32000) :
    (V m c main_v1 : Vec Ideal S96x32000 .f32) (ix2 g v) = (m ((c.tc : Thread nD τ).loc main_arg2) : Vec Ideal S32000x96 .f32) (ix2 v g) := by
  have h : V m c main_v1 = (transpose S96x32000 [1, 0] (m ((c.tc : Thread nD τ).loc main_arg2) : Vec Ideal S32000x96 .f32) transposes_S32000x96_S96x32000_1_0) := by
    show StableHlo.after hostOps0 _ _ = _
    after_results
    try rfl
  rw [h]
  exact transpose_apply _ _ _ _ _ (fun b => match b with | ⟨0, _⟩ => rfl | ⟨1, _⟩ => rfl)

theorem rows_iblk (c : Dev nD) (t : Fin cfg0.N) (r : Fin 1920) (k : Fin 6144) :
    (iblk m c 0 t : Vec Ideal S1920x6144 .bf16) (ix2 r k) = (m ((c.tc : Thread nD τ).loc main_arg0) : Vec Ideal S3x640x6144 .bf16) (ix3 (tokRow r) (tokCol r) k) := by
  rw [← rows_V m c r k]
  blk_simp [iblk]
  refine congrArg (V m c main_v0) (funext fun a => Fin.ext ?_)
  match a with
  | ⟨0, _⟩ => blk_simp [index_0]
  | ⟨1, _⟩ => blk_simp [index_0]

theorem bytes_iblk (c : Dev nD) (t : Fin cfg0.N) (v : Fin 256) (k : Fin 3072) :
    (iblk m c 1 t : Vec Ideal S256x3072 .i8) (ix2 v k) = (m ((c.tc : Thread nD τ).loc main_arg1) : Vec Ideal S32000x3072 .i8) (ix2 ⟨256 * t.val + v.val, by have := val_N t; omega⟩ k) := by
  have e := V_main_arg1 m c
  blk_simp [iblk]
  refine (congrFun e _).trans (congrArg (m ((c.tc : Thread nD τ).loc main_arg1)) (funext fun a => Fin.ext ?_))
  match a with
  | ⟨0, _⟩ => blk_simp [index_1]; show t.val * 256 + v.val = 256 * t.val + v.val; omega
  | ⟨1, _⟩ => blk_simp [index_1]

theorem scales_iblk (c : Dev nD) (t : Fin cfg0.N) (g : Fin 96) (v : Fin 256) :
    (iblk m c 2 t : Vec Ideal S96x256 .f32) (ix2 g v) = (m ((c.tc : Thread nD τ).loc main_arg2) : Vec Ideal S32000x96 .f32) (ix2 ⟨256 * t.val + v.val, by have := val_N t; omega⟩ g) := by
  rw [← scales_V m c g _]
  blk_simp [iblk]
  refine congrArg (V m c main_v1) (funext fun a => Fin.ext ?_)
  match a with
  | ⟨0, _⟩ => blk_simp [index_2]
  | ⟨1, _⟩ => blk_simp [index_2]; show t.val * 256 + v.val = 256 * t.val + v.val; omega

theorem labels_iblk (c : Dev nD) (t : Fin cfg0.N) (i : Fin 3) (j : Fin 640) :
    (iblk m c 3 t : Vec Ideal S3x640 .i32) (ix2 i j) = (m ((c.tc : Thread nD τ).loc main_arg3) : Vec Ideal S3x640 .i32) (ix2 i j) := by
  have e := V_main_arg3 m c
  blk_simp [iblk]
  refine (congrFun e _).trans (congrArg (m ((c.tc : Thread nD τ).loc main_arg3)) (funext fun a => Fin.ext ?_))
  match a with
  | ⟨0, _⟩ => blk_simp [index_3]
  | ⟨1, _⟩ => blk_simp [index_3]

/-- A tile's logits are the head's. -/
theorem logit_iblk (c : Dev nD) (t : Fin cfg0.N) (r : Fin 1920) (v : Fin 256) :
    logit (iblk m c 0 t) (iblk m c 1 t) (iblk m c 2 t) r v
      = headLogit (m ((c.tc : Thread nD τ).loc main_arg0)) (m ((c.tc : Thread nD τ).loc main_arg1)) (m ((c.tc : Thread nD τ).loc main_arg2)) r ⟨256 * t.val + v.val, by have := val_N t; omega⟩ := by
  unfold logit headLogit
  refine Finset.sum_congr rfl fun k _ => ?_
  refine congrArg₂ (· * ·) (rows_iblk m c t r k) ?_
  unfold wt headWt
  rw [bytes_iblk, scales_iblk]

/-! ## The order of a tile's words -/

/-- Where in the tile's order a word lies. -/
def icol (w : ℕ) : ℕ := 128 * (w / 2 % 2) + 64 * (w % 2) + w / 4

theorem vcol_icol : ∀ w : Fin 256, ∀ y : Fin 256, y.val = icol w.val → vcol y = w := by decide +kernel
theorem vcol_bij : Function.Bijective vcol := by
  have h : Function.Injective vcol := by
    have : ∀ y : Fin 256, icol (vcol y).val = y.val := by decide +kernel
    intro y y' e
    exact Fin.ext ((this y).symm.trans ((congrArg (fun z => icol z.val) e).trans (this y')))
  exact Finite.injective_iff_bijective.mp h

theorem permLab_val' : ∀ n : Fin 125, ∀ w : Fin 256, (permLab (BitVec.ofNat 32 (256 * n.val + w.val))).toNat = 256 * n.val + icol w.val := by decide +kernel
theorem permLab_val (b : BitVec 32) (h : b.toNat < 32000) : (permLab b).toNat = 256 * (b.toNat / 256) + icol (b.toNat % 256) := by
  have e := permLab_val' ⟨b.toNat / 256, by omega⟩ ⟨b.toNat % 256, by omega⟩
  have e' : BitVec.ofNat 32 (256 * (b.toNat / 256) + b.toNat % 256) = b := by
    rw [Nat.div_add_mod]; exact BitVec.eq_of_toNat_eq (by rw [BitVec.toNat_ofNat]; exact Nat.mod_eq_of_lt b.isLt)
  simp only [e'] at e
  exact e

/-- A word's place in the head: tile, lane and half. -/
def word (n : Fin 125) (y : Fin 256) : Fin 32000 := ⟨256 * n.val + (vcol y).val, by omega⟩

theorem sum_words (f : Fin 32000 → ℝ) : ∑ v, f v = ∑ l : Fin 128, ∑ n : Fin 125, (f (word n (fstLane l)) + f (word n (sndLane l))) := by
  rw [Finset.sum_comm]
  refine ((Equiv.sum_comp (finProdFinEquiv (m := 125) (n := 256)) f).symm.trans (Fintype.sum_prod_type _)).trans ?_
  refine Finset.sum_congr rfl fun n _ => ?_
  rw [← Function.Bijective.sum_comp vcol_bij, Finset.sum_add_distrib]
  refine (Fin.sum_univ_add (fun y : Fin (128 + 128) => f (finProdFinEquiv (n, vcol y)))).trans ?_
  refine congrArg₂ (· + ·) (Finset.sum_congr rfl fun l _ => ?_) (Finset.sum_congr rfl fun l _ => ?_)
  · refine congrArg f (Fin.ext ?_)
    show (vcol (fstLane l)).val + 256 * n.val = 256 * n.val + (vcol (fstLane l)).val
    omega
  · refine congrArg f (Fin.ext ?_)
    show (vcol (sndLane l)).val + 256 * n.val = 256 * n.val + (vcol (sndLane l)).val
    omega

/-! ## A token's log probability -/

theorem word_surj (v : Fin 32000) : ∃ n y, word n y = v := by
  obtain ⟨y, hy⟩ := vcol_bij.surjective ⟨v.val % 256, Nat.mod_lt _ (by norm_num)⟩
  refine ⟨⟨v.val / 256, by omega⟩, y, Fin.ext ?_⟩
  show 256 * (v.val / 256) + (vcol y).val = v.val
  rw [hy]
  exact Nat.div_add_mod _ _

/-- Each position of a tile's order is a lane's first or second. -/
theorem lane_surj (y : Fin 256) : ∃ l, fstLane l = y ∨ sndLane l = y := by
  revert y; decide +kernel

/-- A row's logits in a lane's order. -/
def laneLogit (f : Fin 32000 → EReal) (g : Fin 128 → Fin 256) (l : Fin 128) (n : ℕ) : EReal :=
  if h : n < 125 then f (word ⟨n, h⟩ (g l)) else 0

/-- The state after all the tiles gives the log probability over all the words. -/
theorem tokAt_val (c : Dev nD) (r : Fin 1920) (hlab : ((m ((c.tc : Thread nD τ).loc main_arg3) : Vec Ideal S3x640 .i32) (ix2 (tokRow r) (tokCol r))).toNat < 32000) :
    tokAt m c r = headLogit (m ((c.tc : Thread nD τ).loc main_arg0)) (m ((c.tc : Thread nD τ).loc main_arg1)) (m ((c.tc : Thread nD τ).loc main_arg2)) r ⟨_, hlab⟩
      - rowLse (m ((c.tc : Thread nD τ).loc main_arg0)) (m ((c.tc : Thread nD τ).loc main_arg1)) (m ((c.tc : Thread nD τ).loc main_arg2)) r := by
  have hlogit := fun t v => logit_iblk m c t r v
  unfold rowLse
  generalize headLogit (m ((c.tc : Thread nD τ).loc main_arg0)) (m ((c.tc : Thread nD τ).loc main_arg1)) (m ((c.tc : Thread nD τ).loc main_arg2)) r = f at hlogit
  have ea : ∀ l, aL m c r l = laneLogit f fstLane l := by
    intro l; funext n
    unfold aL laneLogit
    by_cases h : n < 125
    · rw [dif_pos (lt_N n h), dif_pos h]
      unfold fstLogit
      rw [hlogit]
      rfl
    · rw [dif_neg (fun h' => h (val_N ⟨n, h'⟩)), dif_neg h]
  have eb : ∀ l, bL m c r l = laneLogit f sndLane l := by
    intro l; funext n
    unfold bL laneLogit
    by_cases h : n < 125
    · rw [dif_pos (lt_N n h), dif_pos h]
      unfold sndLogit
      rw [hlogit]
      rfl
    · rw [dif_neg (fun h' => h (val_N ⟨n, h'⟩)), dif_neg h]
  have el : labL m c r = permLab ((m ((c.tc : Thread nD τ).loc main_arg3) : Vec Ideal S3x640 .i32) (ix2 (tokRow r) (tokCol r))) := by
    unfold labL
    rw [labels_iblk]
  generalize hb : (m ((c.tc : Thread nD τ).loc main_arg3) : Vec Ideal S3x640 .i32) (ix2 (tokRow r) (tokCol r)) = b at el hlab
  have hw : b.toNat % 256 < 256 := Nat.mod_lt _ (by norm_num)
  have hn : b.toNat / 256 < 125 := by omega
  have hy : icol (b.toNat % 256) < 256 := by unfold icol; omega
  have hword : ∀ y : Fin 256, y.val = icol (b.toNat % 256) → word ⟨b.toNat / 256, hn⟩ y = ⟨b.toNat, hlab⟩ := by
    intro y e
    refine Fin.ext ?_
    show 256 * (b.toNat / 256) + (vcol y).val = b.toNat
    rw [vcol_icol ⟨b.toNat % 256, hw⟩ y e]
    exact Nat.div_add_mod _ _
  have ht := sum_target (laneLogit f fstLane) (laneLogit f sndLane) (labL m c r) (b.toNat / 256) (icol (b.toNat % 256)) hn hy (by rw [el]; exact permLab_val b hlab) (f ⟨b.toNat, hlab⟩)
    (by
      intro l
      constructor
      · intro e
        unfold laneLogit
        rw [dif_pos hn, hword (fstLane l) e.symm]
      · intro e
        unfold laneLogit
        rw [dif_pos hn, hword (sndLane l) e.symm])
  unfold tokAt mAt sAt tAt lpOf
  simp only [ea, eb]
  rw [ht]
  refine congrArg _ ?_
  by_cases h : ∃ v, f v = ⊤
  · rw [if_pos h]
    refine lse_lanes_top _ _ ?_
    obtain ⟨v, hv⟩ := h
    obtain ⟨n, y, rfl⟩ := word_surj v
    obtain ⟨l, e⟩ := lane_surj y
    refine ⟨l, n.val, n.isLt, e.imp (fun e => ?_) fun e => ?_⟩ <;>
    · unfold laneLogit
      rw [dif_pos n.isLt, e]
      exact hv
  · rw [if_neg h]
    have hf : ∀ v, f v ≠ ⊤ := fun v e => h ⟨v, e⟩
    refine (lse_lanes _ _ ?_).trans ?_
    · intro l j hj
      unfold laneLogit
      rw [dif_pos hj, dif_pos hj]
      exact ⟨hf _, hf _⟩
    · rw [sum_words]
      refine congrArg (fun x : ℝ => Ideal.log (x : EReal)) (Finset.sum_congr rfl fun l _ => ?_)
      rw [Finset.sum_range]
      refine Finset.sum_congr rfl fun n _ => ?_
      unfold laneLogit
      rw [dif_pos n.isLt, dif_pos n.isLt]

end Cert.KernelIdeal.Hand

end
-- ==== Proof.PreFacts.lean ====
/- What the value claim's precondition says of the arguments: the pairs name sequences and the labels name words. -/
module

public import proofs.«01_k».proof.Defs
public import proofs.«01_k».proof.Proof.Gen.Pre_pre
public import Idealize.ShloMosaic.Lib.ReduceAll

@[expose] public section

set_option maxRecDepth 16384

noncomputable section

open Idealize.ShloMosaic Idealize.ShloMosaic.TcCoe

namespace Cert.PreFacts

theorem andi_eq_one (p q : BitVec 1) : IntOp.andi p q = 1#1 ↔ p = 1#1 ∧ q = 1#1 := by
  revert p q; decide

theorem ofBool_eq_one (p : Bool) : (BitVec.ofBool p = 1#1) ↔ p = true := by cases p <;> decide

/-- A word that compares as at least zero and less than a small number is below that number. -/
theorem toNat_lt {w : BitVec 32} (n : ℕ) (hn : n < 2 ^ 31) (h0 : IntOp.cmpi .sge w 0#32 = 1#1) (h1 : IntOp.cmpi .slt w (BitVec.ofNat 32 n) = 1#1) :
    w.toNat < n := by
  simp only [IntOp.cmpi, ofBool_eq_one, BitVec.sle, BitVec.slt, decide_eq_true_eq, BitVec.toInt,
    BitVec.toNat_ofNat] at h0 h1
  omega

instance : Subsingleton Cert.Pre_pre.S_.Idx := ⟨fun a b => funext fun i => i.elim0⟩

attribute [local instance] Cert.Pre_pre.Gen.facts

theorem of_fn (x0 x1 x2 x3 x4 x5 x6 x7 x8)
    (h : Cert.Pre_pre.fn (F := Ideal) x0 x1 x2 x3 x4 x5 x6 x7 x8 = fun _ => 1#1) :
    (∀ y, (x7 y).toNat < 6 ∧ (x8 y).toNat < 6) ∧ ∀ i, (x3 i).toNat < 32000 := by
  have e := congrFun h (Shape.Idx.first Cert.Pre_pre.Facts.h_S_)
  simp only [Cert.Pre_pre.fn, Cert.Pre_pre.fn_part1] at e
  simp only [andi, andi_eq_one] at e
  obtain ⟨ep, el⟩ := e
  refine ⟨fun y => ?_, fun i => ?_⟩
  · have e' := Host.reduce_andi_all _ _ _ _ _ ep y
    simp only [andi, cmpi, broadcastInDim, constantI, andi_eq_one] at e'
    exact ⟨toNat_lt 6 (by norm_num) e'.1.1.1 e'.1.1.2, toNat_lt 6 (by norm_num) e'.1.2 e'.2⟩
  · have e' := Host.reduce_andi_all _ _ _ _ _ el i
    simp only [andi, cmpi, broadcastInDim, constantI, andi_eq_one] at e'
    exact toNat_lt 32000 (by norm_num) e'.1 e'.2

end Cert.PreFacts

end
-- ==== Proof.TokenValues.lean ====
/- The token log-probabilities of the kernel's idealization are the reference's: both are the label's logit less the logarithm of the
   sum of the logits' exponentials. -/
module

public import proofs.«01_k».proof.Proof.Operands
public import proofs.«01_k».proof.Proof.PreFacts
public import proofs.«01_k».proof.Proof.PairRange

@[expose] public section

set_option maxRecDepth 65536

noncomputable section

open Idealize.ShloMosaic Idealize.ShloMosaic.TcCoe Idealize.SL.Sem

attribute [local instance] Cert.Kernel.Gen.facts Cert.KernelIdeal.Gen.facts Cert.ReferenceIdeal.Gen.facts
  Cert.Pre_pairs_in_range.Gen.facts Cert.Pre_pre.Gen.facts

namespace Cert.KernelIdeal.Hand

open Cert.KernelIdeal Cert.KernelIdeal.Gen Cert.ReferenceIdeal.Hand Cert.ReferenceIdeal.Read

variable (m : (ℓ : Loc nD τ sig) → Buf (Elt Ideal) ℓ)

theorem hyps_of_values_pre (h : Cert.Pre_KernelIdeal_pre m) : Hyps m :=
  Cert.KernelIdeal.PairRange.hyps_of_lt m (fun c y => ((Cert.PreFacts.of_fn _ _ _ _ _ _ _ _ _ (h c)).1 y).1)
    (fun c y => ((Cert.PreFacts.of_fn _ _ _ _ _ _ _ _ _ (h c)).1 y).2)

/-- The reference's token log-probabilities of the kernel's arguments. -/
def refTok (c : Dev nD) : Vec Ideal S3x640 .f32 :=
  val_main_v45 (F := Ideal) (m ((c.tc : Thread nD τ).loc main_arg0)) (m ((c.tc : Thread nD τ).loc main_arg1))
    (m ((c.tc : Thread nD τ).loc main_arg2)) (m ((c.tc : Thread nD τ).loc main_arg3))

/-- The kernel's array of token log-probabilities ends at the reference's. -/
theorem tokens_eq (hpre : Cert.Pre_KernelIdeal_pre m) (r : PUnit × MemSt nD τ sig (Elt Ideal))
    (h : Pipeline.RDat.FramePost (cfgs 0) (rdat m) (V m) r) (c : Dev nD) :
    (r.2.mem ((c.tc : Thread nD τ).loc main_v2_3) : Vec Ideal S3x640 .f32) = refTok m c := by
  obtain ⟨-, h3⟩ := Cert.PreFacts.of_fn _ _ _ _ _ _ _ _ _ (hpre c)
  funext i
  have b0 : (i 0).val < 3 := (i 0).isLt
  have b1 : (i 1).val < 640 := (i 1).isLt
  have e : i = ix2 (tokRow ⟨(i 0).val * 640 + (i 1).val, by omega⟩) (tokCol ⟨(i 0).val * 640 + (i 1).val, by omega⟩) := by
    funext a
    refine Fin.ext ?_
    match a with
    | ⟨0, _⟩ => show (i 0).val = ((i 0).val * 640 + (i 1).val) / 640; omega
    | ⟨1, _⟩ => show (i 1).val = ((i 0).val * 640 + (i 1).val) % 640; omega
  rw [e]
  exact (tok_of m r h c _).trans ((tokAt_val m c _ (h3 _)).trans
    (token_apply _ _ _ (m ((c.tc : Thread nD τ).loc main_arg3)) _ (h3 _)).symm)

end Cert.KernelIdeal.Hand

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_pairs_in_range
public import proofs.«01_k».proof.Proof.Gen.Pre_pre
public import proofs.«01_k».proof.Proof.Gen.ReferenceIdeal.Run
public import proofs.«01_k».proof.Proof.Gen.ReferenceIdeal.Read
public import proofs.«01_k».proof.Proof.PrintedFrame
public import proofs.«01_k».proof.Proof.PairRange
public import proofs.«01_k».proof.Proof.TokenValues
public import Idealize.ShloMosaic.Lib.Quiescent
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem

attribute [local instance] Cert.Kernel.Gen.facts Cert.KernelIdeal.Gen.facts Cert.ReferenceIdeal.Gen.facts
  Cert.Pre_pairs_in_range.Gen.facts Cert.Pre_pre.Gen.facts

/-- The kernel as printed runs, leaves its arguments unchanged and its counters at zero. -/
theorem frame_kernel : Cert.quiescent_Kernel :=
  fun m g h => Cert.Kernel.Hand.frame m g (Cert.Kernel.PairRange.hyps_of_pre m h)

/-- The same of the kernel's idealization. -/
theorem frame_kernelIdeal : Cert.quiescent_KernelIdeal :=
  fun m g h => (θ_run Cert.KernelIdeal.defs _ _).mono (fun r h' => ⟨fun c => Cert.KernelIdeal.Hand.unchanged_of m r h'.1 c, h'.2⟩)
    (Cert.KernelIdeal.Hand.run_main_quiescent m g (Cert.KernelIdeal.PairRange.hyps_of_pre m h))

/-- The same under the value claim's precondition. -/
theorem frame_kernelIdeal_pre : Cert.quiescent_KernelIdeal_pre_pre :=
  fun m g h => (θ_run Cert.KernelIdeal.defs _ _).mono (fun r h' => ⟨fun c => Cert.KernelIdeal.Hand.unchanged_of m r h'.1 c, h'.2⟩)
    (Cert.KernelIdeal.Hand.run_main_quiescent m g (Cert.KernelIdeal.Hand.hyps_of_values_pre m h))

/-- The same of the reference, which has no counter. -/
theorem frame_referenceIdeal : Cert.quiescent_ReferenceIdeal :=
  fun m g _ => (θ_run Cert.ReferenceIdeal.defs _ _).mono
    (fun r h => ⟨fun c => (h c).2, sem_eq_zero_of_no_sems rfl r.2⟩) (Cert.ReferenceIdeal.Value.run m g)

theorem frame_referenceIdeal_pre : Cert.quiescent_ReferenceIdeal_pre_pre :=
  fun m g _ => (θ_run Cert.ReferenceIdeal.defs _ _).mono
    (fun r h => ⟨fun c => (h c).2, sem_eq_zero_of_no_sems rfl r.2⟩) (Cert.ReferenceIdeal.Value.run m g)

/-- Every rewrite between the kernel as printed and its idealization preserves the values. -/
theorem preserves : Cert.preserves_Kernel_KernelIdeal :=
  ⟨IdealRules.bf16_pair.bufferStatement _ _, IdealRules.bf16_pair.packStatement _,
    IdealRules.bf16_pair.statement _ _, IdealRules.bf16_pair.statement _ _, IdealRules.bf16_pair.statement _ _⟩

/-- The kernel's idealization and the reference return the same token log-probabilities. -/
theorem algebraic : Cert.algebraic_KernelIdeal_ReferenceIdeal_pre_pre :=
  fun m g m' g' hpre hargs => ⟨fun c => Cert.KernelIdeal.Hand.refTok m c,
    (θ_run Cert.KernelIdeal.defs _ _).mono
      (fun r h' c => ⟨Cert.KernelIdeal.Hand.tokens_eq m hpre r h'.1 c, Cert.KernelIdeal.Hand.unchanged_of m r h'.1 c⟩)
      (Cert.KernelIdeal.Hand.run_main_quiescent m g (Cert.KernelIdeal.Hand.hyps_of_values_pre m hpre)),
    (θ_run Cert.ReferenceIdeal.defs _ _).mono
      (fun r h c => ⟨(h c).1.trans ((Cert.ReferenceIdeal.Read.val_main_v45_eq m' c).trans (by
        obtain ⟨e0, e1, e2, e3, -⟩ := hargs c
        rw [e0, e1, e2, e3]; rfl)), (h c).2⟩)
      (Cert.ReferenceIdeal.Value.run m' g')⟩

theorem claim : Cert.Claim :=
  ⟨Cert.Kernel.Gen.facts, Cert.KernelIdeal.Gen.facts, Cert.ReferenceIdeal.Gen.facts, Cert.Pre_pairs_in_range.Gen.facts,
    Cert.Pre_pre.Gen.facts,
    frame_kernel, frame_kernelIdeal, frame_kernelIdeal_pre, frame_referenceIdeal, frame_referenceIdeal_pre, preserves, algebraic⟩

end Cert.Proof

end
